-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_typed_and_finite [hPre_typed_and_finite : Cert.Pre_typed_and_finite.Facts] (m : (ℓ : Loc Cert.KernelIdeal.nD Cert.KernelIdeal.τ Cert.KernelIdeal.sig) → Buf (Elt Ideal) ℓ) : Prop :=
  ∀ c : Dev Cert.KernelIdeal.nD,
    (Cert.Pre_typed_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_typed_and_finite [hPre_typed_and_finite : Cert.Pre_typed_and_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_typed_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_KernelIdeal_pre_typed_and_finite [hKernelIdeal : Cert.KernelIdeal.Facts] [hPre_typed_and_finite : Cert.Pre_typed_and_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_typed_and_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def quiescent_ReferenceIdeal_pre_typed_and_finite [hReferenceIdeal : Cert.ReferenceIdeal.Facts] [hPre_typed_and_finite : Cert.Pre_typed_and_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_typed_and_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def preserves_Kernel_KernelIdeal : Prop :=
  True

def algebraic_KernelIdeal_ReferenceIdeal_pre_typed_and_finite [hKernelIdeal : Cert.KernelIdeal.Facts] [hReferenceIdeal : Cert.ReferenceIdeal.Facts] [hPre_typed_and_finite : Cert.Pre_typed_and_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_typed_and_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_typed_and_finite : Cert.Pre_typed_and_finite.Facts),
    quiescent_Kernel (hKernel := hKernel)
    ∧ quiescent_KernelIdeal (hKernelIdeal := hKernelIdeal)
    ∧ quiescent_KernelIdeal_pre_typed_and_finite (hKernelIdeal := hKernelIdeal) (hPre_typed_and_finite := hPre_typed_and_finite)
    ∧ quiescent_ReferenceIdeal (hReferenceIdeal := hReferenceIdeal)
    ∧ quiescent_ReferenceIdeal_pre_typed_and_finite (hReferenceIdeal := hReferenceIdeal) (hPre_typed_and_finite := hPre_typed_and_finite)
    ∧ preserves_Kernel_KernelIdeal
    ∧ algebraic_KernelIdeal_ReferenceIdeal_pre_typed_and_finite (hKernelIdeal := hKernelIdeal) (hReferenceIdeal := hReferenceIdeal) (hPre_typed_and_finite := hPre_typed_and_finite)
-- ==== Pre_typed_and_finite.lean ====
abbrev S1024x2048 : Shape := ⟨2, ![1024, 2048]⟩
abbrev S1024x6 : Shape := ⟨2, ![1024, 6]⟩
abbrev S2048x7 : Shape := ⟨2, ![2048, 7]⟩
abbrev S9x18 : Shape := ⟨2, ![9, 18]⟩
abbrev S18 : Shape := ⟨1, ![18]⟩
abbrev S18x9 : Shape := ⟨2, ![18, 9]⟩
abbrev S9 : Shape := ⟨1, ![9]⟩
abbrev S9x6 : Shape := ⟨2, ![9, 6]⟩
abbrev S6 : Shape := ⟨1, ![6]⟩
abbrev S6x3 : Shape := ⟨2, ![6, 3]⟩
abbrev S3 : Shape := ⟨1, ![3]⟩
abbrev S6x18 : Shape := ⟨2, ![6, 18]⟩
abbrev S2048x1 : Shape := ⟨2, ![2048, 1]⟩
abbrev S2048 : Shape := ⟨1, ![2048]⟩
abbrev S_ : Shape := ⟨0, ![]⟩
abbrev S1024x3 : Shape := ⟨2, ![1024, 3]⟩
abbrev S3x18 : Shape := ⟨2, ![3, 18]⟩

class Facts : Prop where
  slices_S2048x7_S2048x1_0_6 : S2048x7.Slices ![0, 6] S2048x1
  shapeCasts_S2048x1_S2048 : S2048x1.ShapeCasts S2048
  bcast_S_S2048 : S_.BroadcastsInDim S2048 (![] : Fin 0 → Fin S2048.rank)
  reducesTo_S2048_S_d0 : S2048.ReducesTo [0] S_
  h_S_ : 0 < S_.numel
  slices_S1024x6_S1024x3_0_0 : S1024x6.Slices ![0, 0] S1024x3
  bcast_S_S1024x3 : S_.BroadcastsInDim S1024x3 (![] : Fin 0 → Fin S1024x3.rank)
  reducesTo_S1024x3_S_d0_1 : S1024x3.ReducesTo [0, 1] S_
  slices_S9x18_S3x18_0_0 : S9x18.Slices ![0, 0] S3x18
  bcast_S_S3x18 : S_.BroadcastsInDim S3x18 (![] : Fin 0 → Fin S3x18.rank)
  reducesTo_S3x18_S_d0_1 : S3x18.ReducesTo [0, 1] S_
  slices_S6x18_S3x18_0_0 : S6x18.Slices ![0, 0] S3x18
  bcast_S_S6x3 : S_.BroadcastsInDim S6x3 (![] : Fin 0 → Fin S6x3.rank)
  reducesTo_S6x3_S_d0_1 : S6x3.ReducesTo [0, 1] S_

variable [Facts]

def fn_part2 {F : FTy → Type} [FloatOps F] (main_v30 : IVec S_ 1) (main_v34 : IVec S_ 1) : IVec S_ 1 :=
  let main_v35 : IVec S_ 1 := andi main_v30 main_v34
  main_v35

def fn_part1 {F : FTy → Type} [FloatOps F] (main_arg9 : FVec F S6x3 .f32) (main_arg11 : FVec F S6x18 .f32) (main_arg17 : FVec F S6x3 .f32) (main_v13 : IVec S_ 1) (main_v17 : IVec S3x18 1) : IVec S_ 1 :=
  let main_c_4 : IVec S_ 1 := constantI S_ 1 1#1
  let main_v18 : IVec S_ 1 := (fun x v => Host.reduce IntOp.andi x v reducesTo_S3x18_S_d0_1 h_S_) main_v17 main_c_4
  let main_v19 : IVec S_ 1 := andi main_v13 main_v18
  let main_v20 : FVec F S3x18 .f32 := (extractStridedSlice S3x18 ![0, 0] · slices_S6x18_S3x18_0_0) main_arg11
  let main_v21 : FVec F S3x18 .f32 := Host.absf main_v20
  let main_cst_5 : FVec F S_ .f32 := constant S_ .f32 0x7F800000#32
  let main_v22 : FVec F S3x18 .f32 := broadcastInDim S3x18 ![] bcast_S_S3x18 main_cst_5
  let main_v23 : IVec S3x18 1 := cmpf .olt main_v21 main_v22
  let main_c_6 : IVec S_ 1 := constantI S_ 1 1#1
  let main_v24 : IVec S_ 1 := (fun x v => Host.reduce IntOp.andi x v reducesTo_S3x18_S_d0_1 h_S_) main_v23 main_c_6
  let main_v25 : IVec S_ 1 := andi main_v19 main_v24
  let main_v26 : FVec F S6x3 .f32 := Host.absf main_arg9
  let main_cst_7 : FVec F S_ .f32 := constant S_ .f32 0x7F800000#32
  let main_v27 : FVec F S6x3 .f32 := broadcastInDim S6x3 ![] bcast_S_S6x3 main_cst_7
  let main_v28 : IVec S6x3 1 := cmpf .olt main_v26 main_v27
  let main_c_8 : IVec S_ 1 := constantI S_ 1 1#1
  let main_v29 : IVec S_ 1 := (fun x v => Host.reduce IntOp.andi x v reducesTo_S6x3_S_d0_1 h_S_) main_v28 main_c_8
  let main_v30 : IVec S_ 1 := andi main_v25 main_v29
  let main_v31 : FVec F S6x3 .f32 := Host.absf main_arg17
  let main_cst_9 : FVec F S_ .f32 := constant S_ .f32 0x7F800000#32
  let main_v32 : FVec F S6x3 .f32 := broadcastInDim S6x3 ![] bcast_S_S6x3 main_cst_9
  let main_v33 : IVec S6x3 1 := cmpf .olt main_v31 main_v32
  let main_c_10 : IVec S_ 1 := constantI S_ 1 1#1
  let main_v34 : IVec S_ 1 := (fun x v => Host.reduce IntOp.andi x v reducesTo_S6x3_S_d0_1 h_S_) main_v33 main_c_10
  fn_part2 (F := F) main_v30 main_v34

def fn {F : FTy → Type} [FloatOps F] (main_arg0 : IVec S1024x2048 1) (main_arg1 : FVec F S1024x6 .f32) (main_arg2 : FVec F S2048x7 .f32) (main_arg3 : FVec F S9x18 .f32) (main_arg4 : FVec F S18 .f32) (main_arg5 : FVec F S18x9 .f32) (main_arg6 : FVec F S9 .f32) (main_arg7 : FVec F S9x6 .f32) (main_arg8 : FVec F S6 .f32) (main_arg9 : FVec F S6x3 .f32) (main_arg10 : FVec F S3 .f32) (main_arg11 : FVec F S6x18 .f32) (main_arg12 : FVec F S18 .f32) (main_arg13 : FVec F S18x9 .f32) (main_arg14 : FVec F S9 .f32) (main_arg15 : FVec F S9x6 .f32) (main_arg16 : FVec F S6 .f32) (main_arg17 : FVec F S6x3 .f32) (main_arg18 : FVec F S3 .f32) : IVec S_ 1 :=
  let main_v0 : FVec F S2048x1 .f32 := (extractStridedSlice S2048x1 ![0, 6] · slices_S2048x7_S2048x1_0_6) main_arg2
  let main_v1 : FVec F S2048 .f32 := shapeCast S2048 main_v0 shapeCasts_S2048x1_S2048
  let main_cst : FVec F S_ .f32 := constant S_ .f32 0x00000000#32
  let main_v2 : FVec F S2048 .f32 := broadcastInDim S2048 ![] bcast_S_S2048 main_cst
  let main_v3 : IVec S2048 1 := cmpf .oeq main_v1 main_v2
  let main_cst_0 : FVec F S_ .f32 := constant S_ .f32 0x3F800000#32
  let main_v4 : FVec F S2048 .f32 := broadcastInDim S2048 ![] bcast_S_S2048 main_cst_0
  let main_v5 : IVec S2048 1 := cmpf .oeq main_v1 main_v4
  let main_v6 : IVec S2048 1 := ori main_v3 main_v5
  let main_c : IVec S_ 1 := constantI S_ 1 1#1
  let main_v7 : IVec S_ 1 := (fun x v => Host.reduce IntOp.andi x v reducesTo_S2048_S_d0 h_S_) main_v6 main_c
  let main_v8 : FVec F S1024x3 .f32 := (extractStridedSlice S1024x3 ![0, 0] · slices_S1024x6_S1024x3_0_0) main_arg1
  let main_v9 : FVec F S1024x3 .f32 := Host.absf main_v8
  let main_cst_1 : FVec F S_ .f32 := constant S_ .f32 0x7F800000#32
  let main_v10 : FVec F S1024x3 .f32 := broadcastInDim S1024x3 ![] bcast_S_S1024x3 main_cst_1
  let main_v11 : IVec S1024x3 1 := cmpf .olt main_v9 main_v10
  let main_c_2 : IVec S_ 1 := constantI S_ 1 1#1
  let main_v12 : IVec S_ 1 := (fun x v => Host.reduce IntOp.andi x v reducesTo_S1024x3_S_d0_1 h_S_) main_v11 main_c_2
  let main_v13 : IVec S_ 1 := andi main_v7 main_v12
  let main_v14 : FVec F S3x18 .f32 := (extractStridedSlice S3x18 ![0, 0] · slices_S9x18_S3x18_0_0) main_arg3
  let main_v15 : FVec F S3x18 .f32 := Host.absf main_v14
  let main_cst_3 : FVec F S_ .f32 := constant S_ .f32 0x7F800000#32
  let main_v16 : FVec F S3x18 .f32 := broadcastInDim S3x18 ![] bcast_S_S3x18 main_cst_3
  let main_v17 : IVec S3x18 1 := cmpf .olt main_v15 main_v16
  fn_part1 (F := F) main_arg9 main_arg11 main_arg17 main_v13 main_v17
-- ==== Kernel.lean ====
abbrev S1024x2048 : Shape := ⟨2, ![1024, 2048]⟩
abbrev S1024x6 : Shape := ⟨2, ![1024, 6]⟩
abbrev S2048x7 : Shape := ⟨2, ![2048, 7]⟩
abbrev S9x18 : Shape := ⟨2, ![9, 18]⟩
abbrev S18 : Shape := ⟨1, ![18]⟩
abbrev S18x9 : Shape := ⟨2, ![18, 9]⟩
abbrev S9 : Shape := ⟨1, ![9]⟩
abbrev S9x6 : Shape := ⟨2, ![9, 6]⟩
abbrev S6 : Shape := ⟨1, ![6]⟩
abbrev S6x3 : Shape := ⟨2, ![6, 3]⟩
abbrev S3 : Shape := ⟨1, ![3]⟩
abbrev S6x18 : Shape := ⟨2, ![6, 18]⟩
abbrev S7x2048 : Shape := ⟨2, ![7, 2048]⟩
abbrev S6x1024 : Shape := ⟨2, ![6, 1024]⟩
abbrev S6x4x256 : Shape := ⟨3, ![6, 4, 256]⟩
abbrev S4x6x256 : Shape := ⟨3, ![4, 6, 256]⟩
abbrev S18x6 : Shape := ⟨2, ![18, 6]⟩
abbrev S3x18 : Shape := ⟨2, ![3, 18]⟩
abbrev S18x3 : Shape := ⟨2, ![18, 3]⟩
abbrev S_ : Shape := ⟨0, ![]⟩
abbrev S4x6 : Shape := ⟨2, ![4, 6]⟩
abbrev S40x6 : Shape := ⟨2, ![40, 6]⟩
abbrev S4 : Shape := ⟨1, ![4]⟩
abbrev S40 : Shape := ⟨1, ![40]⟩
abbrev S40x1 : Shape := ⟨2, ![40, 1]⟩
abbrev S9x36 : Shape := ⟨2, ![9, 36]⟩
abbrev S18x36 : Shape := ⟨2, ![18, 36]⟩
abbrev S18x4 : Shape := ⟨2, ![18, 4]⟩
abbrev S18x40 : Shape := ⟨2, ![18, 40]⟩
abbrev S18x320 : Shape := ⟨2, ![18, 320]⟩
abbrev S144x320 : Shape := ⟨2, ![144, 320]⟩
abbrev S1x18 : Shape := ⟨2, ![1, 18]⟩
abbrev S8x18 : Shape := ⟨2, ![8, 18]⟩
abbrev S144 : Shape := ⟨1, ![144]⟩
abbrev S144x1 : Shape := ⟨2, ![144, 1]⟩
abbrev S144x321 : Shape := ⟨2, ![144, 321]⟩
abbrev S6x9 : Shape := ⟨2, ![6, 9]⟩
abbrev S12x18 : Shape := ⟨2, ![12, 18]⟩
abbrev S4x18 : Shape := ⟨2, ![4, 18]⟩
abbrev S16x18 : Shape := ⟨2, ![16, 18]⟩
abbrev S16x144 : Shape := ⟨2, ![16, 144]⟩
abbrev S128x144 : Shape := ⟨2, ![128, 144]⟩
abbrev S16 : Shape := ⟨1, ![16]⟩
abbrev S1x16 : Shape := ⟨2, ![1, 16]⟩
abbrev S8x16 : Shape := ⟨2, ![8, 16]⟩
abbrev S128 : Shape := ⟨1, ![128]⟩
abbrev S128x1 : Shape := ⟨2, ![128, 1]⟩
abbrev S128x145 : Shape := ⟨2, ![128, 145]⟩
abbrev S3x6 : Shape := ⟨2, ![3, 6]⟩
abbrev S3x4 : Shape := ⟨2, ![3, 4]⟩
abbrev S3x16 : Shape := ⟨2, ![3, 16]⟩
abbrev S3x128 : Shape := ⟨2, ![3, 128]⟩
abbrev S24x128 : Shape := ⟨2, ![24, 128]⟩
abbrev S1x3 : Shape := ⟨2, ![1, 3]⟩
abbrev S4x256x3 : Shape := ⟨3, ![4, 256, 3]⟩
abbrev S256x2048 : Shape := ⟨2, ![256, 2048]⟩
abbrev S1x6x256 : Shape := ⟨3, ![1, 6, 256]⟩
abbrev S1x256x3 : Shape := ⟨3, ![1, 256, 3]⟩
abbrev S1x2048 : Shape := ⟨2, ![1, 2048]⟩
abbrev S6x2048 : Shape := ⟨2, ![6, 2048]⟩
abbrev S40x2048 : Shape := ⟨2, ![40, 2048]⟩
abbrev S6x256 : Shape := ⟨2, ![6, 256]⟩
abbrev S40x256 : Shape := ⟨2, ![40, 256]⟩
abbrev S8x4x2048 : Shape := ⟨3, ![8, 4, 2048]⟩
abbrev S321x2048 : Shape := ⟨2, ![321, 2048]⟩
abbrev S144x2048 : Shape := ⟨2, ![144, 2048]⟩
abbrev S145x2048 : Shape := ⟨2, ![145, 2048]⟩
abbrev S128x2048 : Shape := ⟨2, ![128, 2048]⟩
abbrev S8x2048 : Shape := ⟨2, ![8, 2048]⟩
abbrev S8x1x2048 : Shape := ⟨3, ![8, 1, 2048]⟩
abbrev S8x6x2048 : Shape := ⟨3, ![8, 6, 2048]⟩
abbrev S8x16x2048 : Shape := ⟨3, ![8, 16, 2048]⟩
abbrev S24x1 : Shape := ⟨2, ![24, 1]⟩
abbrev S8x3 : Shape := ⟨2, ![8, 3]⟩
abbrev S256x3 : Shape := ⟨2, ![256, 3]⟩
abbrev S256 : Shape := ⟨1, ![256]⟩
abbrev S256x1 : Shape := ⟨2, ![256, 1]⟩
abbrev S1024x3 : Shape := ⟨2, ![1024, 3]⟩

abbrev nBuf : Space → Nat
  | .hbm => 154
  | .vmem => 15
  | .smem => 0
  | _ => 0

abbrev hbmTy0_0 (i : Nat) : BufTy := match i % 128 with
  | 0 => ⟨S1024x2048, .i1⟩
  | 1 => ⟨S1024x6, .f32⟩
  | 2 => ⟨S2048x7, .f32⟩
  | 3 => ⟨S9x18, .f32⟩
  | 4 => ⟨S18, .f32⟩
  | 5 => ⟨S18x9, .f32⟩
  | 6 => ⟨S9, .f32⟩
  | 7 => ⟨S9x6, .f32⟩
  | 8 => ⟨S6, .f32⟩
  | 9 => ⟨S6x3, .f32⟩
  | 10 => ⟨S3, .f32⟩
  | 11 => ⟨S6x18, .f32⟩
  | 12 => ⟨S18, .f32⟩
  | 13 => ⟨S18x9, .f32⟩
  | 14 => ⟨S9, .f32⟩
  | 15 => ⟨S9x6, .f32⟩
  | 16 => ⟨S6, .f32⟩
  | 17 => ⟨S6x3, .f32⟩
  | 18 => ⟨S3, .f32⟩
  | 19 => ⟨S1024x2048, .i8⟩
  | 20 => ⟨S7x2048, .f32⟩
  | 21 => ⟨S6x1024, .f32⟩
  | 22 => ⟨S6x4x256, .f32⟩
  | 23 => ⟨S4x6x256, .f32⟩
  | 24 => ⟨S6x18, .f32⟩
  | 25 => ⟨S18x6, .f32⟩
  | 26 => ⟨S3x18, .f32⟩
  | 27 => ⟨S18x3, .f32⟩
  | 28 => ⟨S_, .f32⟩
  | 29 => ⟨S18x3, .f32⟩
  | 30 => ⟨S18x6, .f32⟩
  | 31 => ⟨S_, .f32⟩
  | 32 => ⟨S4x6, .f32⟩
  | 33 => ⟨S40x6, .f32⟩
  | 34 => ⟨S3x18, .f32⟩
  | 35 => ⟨S18x3, .f32⟩
  | 36 => ⟨S18x3, .f32⟩
  | 37 => ⟨S3x18, .f32⟩
  | 38 => ⟨S18x3, .f32⟩
  | 39 => ⟨S18x6, .f32⟩
  | 40 => ⟨S3x18, .f32⟩
  | 41 => ⟨S18x3, .f32⟩
  | 42 => ⟨S18x3, .f32⟩
  | 43 => ⟨S3x18, .f32⟩
  | 44 => ⟨S18x3, .f32⟩
  | 45 => ⟨S18x6, .f32⟩
  | 46 => ⟨S_, .f32⟩
  | 47 => ⟨S4x6, .f32⟩
  | 48 => ⟨S40x6, .f32⟩
  | 49 => ⟨S_, .f32⟩
  | 50 => ⟨S4, .f32⟩
  | 51 => ⟨S40, .f32⟩
  | 52 => ⟨S40x1, .f32⟩
  | 53 => ⟨S9x18, .f32⟩
  | 54 => ⟨S9x18, .f32⟩
  | 55 => ⟨S_, .f32⟩
  | 56 => ⟨S9x36, .f32⟩
  | 57 => ⟨S_, .f32⟩
  | 58 => ⟨S9x36, .f32⟩
  | 59 => ⟨S18x36, .f32⟩
  | 60 => ⟨S_, .f32⟩
  | 61 => ⟨S18x4, .f32⟩
  | 62 => ⟨S18x40, .f32⟩
  | 63 => ⟨S_, .f32⟩
  | 64 => ⟨S18x320, .f32⟩
  | 65 => ⟨S_, .f32⟩
  | 66 => ⟨S18x320, .f32⟩
  | 67 => ⟨S_, .f32⟩
  | 68 => ⟨S18x320, .f32⟩
  | 69 => ⟨S_, .f32⟩
  | 70 => ⟨S18x320, .f32⟩
  | 71 => ⟨S_, .f32⟩
  | 72 => ⟨S18x320, .f32⟩
  | 73 => ⟨S_, .f32⟩
  | 74 => ⟨S18x320, .f32⟩
  | 75 => ⟨S_, .f32⟩
  | 76 => ⟨S18x320, .f32⟩
  | 77 => ⟨S_, .f32⟩
  | 78 => ⟨S18x320, .f32⟩
  | 79 => ⟨S144x320, .f32⟩
  | 80 => ⟨S18, .f32⟩
  | 81 => ⟨S1x18, .f32⟩
  | 82 => ⟨S8x18, .f32⟩
  | 83 => ⟨S144, .f32⟩
  | 84 => ⟨S144x1, .f32⟩
  | 85 => ⟨S_, .f32⟩
  | 86 => ⟨S_, .f32⟩
  | 87 => ⟨S_, .f32⟩
  | 88 => ⟨S144x1, .f32⟩
  | 89 => ⟨S144x1, .f32⟩
  | 90 => ⟨S144x321, .f32⟩
  | 91 => ⟨S6x9, .f32⟩
  | 92 => ⟨S6x9, .f32⟩
  | 93 => ⟨S_, .f32⟩
  | 94 => ⟨S6x18, .f32⟩
  | 95 => ⟨S_, .f32⟩
  | 96 => ⟨S6x18, .f32⟩
  | 97 => ⟨S12x18, .f32⟩
  | 98 => ⟨S_, .f32⟩
  | 99 => ⟨S4x18, .f32⟩
  | 100 => ⟨S16x18, .f32⟩
  | 101 => ⟨S_, .f32⟩
  | 102 => ⟨S16x144, .f32⟩
  | 103 => ⟨S_, .f32⟩
  | 104 => ⟨S16x144, .f32⟩
  | 105 => ⟨S_, .f32⟩
  | 106 => ⟨S16x144, .f32⟩
  | 107 => ⟨S_, .f32⟩
  | 108 => ⟨S16x144, .f32⟩
  | 109 => ⟨S_, .f32⟩
  | 110 => ⟨S16x144, .f32⟩
  | 111 => ⟨S_, .f32⟩
  | 112 => ⟨S16x144, .f32⟩
  | 113 => ⟨S_, .f32⟩
  | 114 => ⟨S16x144, .f32⟩
  | 115 => ⟨S_, .f32⟩
  | 116 => ⟨S16x144, .f32⟩
  | 117 => ⟨S128x144, .f32⟩
  | 118 => ⟨S_, .f32⟩
  | 119 => ⟨S4, .f32⟩
  | 120 => ⟨S16, .f32⟩
  | 121 => ⟨S1x16, .f32⟩
  | 122 => ⟨S8x16, .f32⟩
  | 123 => ⟨S128, .f32⟩
  | 124 => ⟨S128x1, .f32⟩
  | 125 => ⟨S128x145, .f32⟩
  | 126 => ⟨S3x6, .f32⟩
  | 127 => ⟨S3x6, .f32⟩
  | _ => ⟨S1024x2048, .i1⟩

abbrev hbmTy0_1 (i : Nat) : BufTy := match i % 128 with
  | 0 => ⟨S_, .f32⟩
  | 1 => ⟨S3x4, .f32⟩
  | 2 => ⟨S3x16, .f32⟩
  | 3 => ⟨S_, .f32⟩
  | 4 => ⟨S3x128, .f32⟩
  | 5 => ⟨S_, .f32⟩
  | 6 => ⟨S3x128, .f32⟩
  | 7 => ⟨S_, .f32⟩
  | 8 => ⟨S3x128, .f32⟩
  | 9 => ⟨S_, .f32⟩
  | 10 => ⟨S3x128, .f32⟩
  | 11 => ⟨S_, .f32⟩
  | 12 => ⟨S3x128, .f32⟩
  | 13 => ⟨S_, .f32⟩
  | 14 => ⟨S3x128, .f32⟩
  | 15 => ⟨S_, .f32⟩
  | 16 => ⟨S3x128, .f32⟩
  | 17 => ⟨S_, .f32⟩
  | 18 => ⟨S3x128, .f32⟩
  | 19 => ⟨S24x128, .f32⟩
  | 20 => ⟨S144x321, .bf16⟩
  | 21 => ⟨S128x145, .bf16⟩
  | 22 => ⟨S1x3, .f32⟩
  | 23 => ⟨S1x3, .f32⟩
  | 24 => ⟨S4x256x3, .f32⟩
  | 25 => ⟨S1024x3, .f32⟩
  | _ => ⟨S1024x2048, .i1⟩

abbrev hbmTy (i : Nat) : BufTy := match i / 128 with
  | 0 => hbmTy0_0 i
  | 1 => hbmTy0_1 i
  | _ => ⟨S1024x2048, .i1⟩

abbrev bufTy : (tb : Table) → Fin (tcTables nBuf tb) → BufTy
  | .hbm, ⟨i, _⟩ => hbmTy i
  | .local _ .vmem, ⟨0, _⟩ => ⟨S256x2048, .i8⟩
  | .local _ .vmem, ⟨1, _⟩ => ⟨S256x2048, .i8⟩
  | .local _ .vmem, ⟨2, _⟩ => ⟨S7x2048, .f32⟩
  | .local _ .vmem, ⟨3, _⟩ => ⟨S1x6x256, .f32⟩
  | .local _ .vmem, ⟨4, _⟩ => ⟨S1x6x256, .f32⟩
  | .local _ .vmem, ⟨5, _⟩ => ⟨S40x6, .f32⟩
  | .local _ .vmem, ⟨6, _⟩ => ⟨S40x6, .f32⟩
  | .local _ .vmem, ⟨7, _⟩ => ⟨S40x1, .f32⟩
  | .local _ .vmem, ⟨8, _⟩ => ⟨S144x321, .bf16⟩
  | .local _ .vmem, ⟨9, _⟩ => ⟨S128x145, .bf16⟩
  | .local _ .vmem, ⟨10, _⟩ => ⟨S24x128, .f32⟩
  | .local _ .vmem, ⟨11, _⟩ => ⟨S1x3, .f32⟩
  | .local _ .vmem, ⟨12, _⟩ => ⟨S1x3, .f32⟩
  | .local _ .vmem, ⟨13, _⟩ => ⟨S1x256x3, .f32⟩
  | .local _ .vmem, ⟨14, _⟩ => ⟨S1x256x3, .f32⟩
  | _, _ => ⟨S1024x2048, .i1⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_cst : Ref sig .tc := ⟨.hbm, 28, rfl⟩
abbrev main_v9 : Ref sig .tc := ⟨.hbm, 29, rfl⟩
abbrev main_v10 : Ref sig .tc := ⟨.hbm, 30, rfl⟩
abbrev main_cst_0 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_1 : Ref sig .tc := ⟨.hbm, 46, rfl⟩
abbrev main_v25 : Ref sig .tc := ⟨.hbm, 47, rfl⟩
abbrev main_v26 : Ref sig .tc := ⟨.hbm, 48, rfl⟩
abbrev main_cst_2 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_call0_cst : Ref sig .tc := ⟨.hbm, 55, rfl⟩
abbrev main_call0_v2 : Ref sig .tc := ⟨.hbm, 56, rfl⟩
abbrev main_call0_cst_0 : Ref sig .tc := ⟨.hbm, 57, rfl⟩
abbrev main_call0_v3 : Ref sig .tc := ⟨.hbm, 58, rfl⟩
abbrev main_v32 : Ref sig .tc := ⟨.hbm, 59, rfl⟩
abbrev main_cst_3 : Ref sig .tc := ⟨.hbm, 60, rfl⟩
abbrev main_v33 : Ref sig .tc := ⟨.hbm, 61, rfl⟩
abbrev main_v34 : Ref sig .tc := ⟨.hbm, 62, rfl⟩
abbrev main_call1_cst : Ref sig .tc := ⟨.hbm, 63, rfl⟩
abbrev main_call1_v8 : Ref sig .tc := ⟨.hbm, 64, rfl⟩
abbrev main_call1_cst_0 : Ref sig .tc := ⟨.hbm, 65, rfl⟩
abbrev main_call1_v9 : Ref sig .tc := ⟨.hbm, 66, rfl⟩
abbrev main_call1_cst_1 : Ref sig .tc := ⟨.hbm, 67, rfl⟩
abbrev main_call1_v10 : Ref sig .tc := ⟨.hbm, 68, rfl⟩
abbrev main_call1_cst_2 : Ref sig .tc := ⟨.hbm, 69, rfl⟩
abbrev main_call1_v11 : Ref sig .tc := ⟨.hbm, 70, rfl⟩
abbrev main_call1_cst_3 : Ref sig .tc := ⟨.hbm, 71, rfl⟩
abbrev main_call1_v12 : Ref sig .tc := ⟨.hbm, 72, rfl⟩
abbrev main_call1_cst_4 : Ref sig .tc := ⟨.hbm, 73, rfl⟩
abbrev main_call1_v13 : Ref sig .tc := ⟨.hbm, 74, rfl⟩
abbrev main_call1_cst_5 : Ref sig .tc := ⟨.hbm, 75, rfl⟩
abbrev main_call1_v14 : Ref sig .tc := ⟨.hbm, 76, rfl⟩
abbrev main_call1_cst_6 : Ref sig .tc := ⟨.hbm, 77, rfl⟩
abbrev main_call1_v15 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_cst_4 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_call2_cst : Ref sig .tc := ⟨.hbm, 93, rfl⟩
abbrev main_call2_v2 : Ref sig .tc := ⟨.hbm, 94, rfl⟩
abbrev main_call2_cst_0 : Ref sig .tc := ⟨.hbm, 95, rfl⟩
abbrev main_call2_v3 : Ref sig .tc := ⟨.hbm, 96, rfl⟩
abbrev main_v48 : Ref sig .tc := ⟨.hbm, 97, rfl⟩
abbrev main_cst_5 : Ref sig .tc := ⟨.hbm, 98, rfl⟩
abbrev main_v49 : Ref sig .tc := ⟨.hbm, 99, rfl⟩
abbrev main_v50 : Ref sig .tc := ⟨.hbm, 100, rfl⟩
abbrev main_call3_cst : Ref sig .tc := ⟨.hbm, 101, rfl⟩
abbrev main_call3_v8 : Ref sig .tc := ⟨.hbm, 102, rfl⟩
abbrev main_call3_cst_0 : Ref sig .tc := ⟨.hbm, 103, rfl⟩
abbrev main_call3_v9 : Ref sig .tc := ⟨.hbm, 104, rfl⟩
abbrev main_call3_cst_1 : Ref sig .tc := ⟨.hbm, 105, rfl⟩
abbrev main_call3_v10 : Ref sig .tc := ⟨.hbm, 106, rfl⟩
abbrev main_call3_cst_2 : Ref sig .tc := ⟨.hbm, 107, rfl⟩
abbrev main_call3_v11 : Ref sig .tc := ⟨.hbm, 108, rfl⟩
abbrev main_call3_cst_3 : Ref sig .tc := ⟨.hbm, 109, rfl⟩
abbrev main_call3_v12 : Ref sig .tc := ⟨.hbm, 110, rfl⟩
abbrev main_call3_cst_4 : Ref sig .tc := ⟨.hbm, 111, rfl⟩
abbrev main_call3_v13 : Ref sig .tc := ⟨.hbm, 112, rfl⟩
abbrev main_call3_cst_5 : Ref sig .tc := ⟨.hbm, 113, rfl⟩
abbrev main_call3_v14 : Ref sig .tc := ⟨.hbm, 114, rfl⟩
abbrev main_call3_cst_6 : Ref sig .tc := ⟨.hbm, 115, rfl⟩
abbrev main_call3_v15 : Ref sig .tc := ⟨.hbm, 116, rfl⟩
abbrev main_v51 : Ref sig .tc := ⟨.hbm, 117, rfl⟩
abbrev main_cst_6 : Ref sig .tc := ⟨.hbm, 118, rfl⟩
abbrev main_v52 : Ref sig .tc := ⟨.hbm, 119, rfl⟩
abbrev main_v53 : Ref sig .tc := ⟨.hbm, 120, rfl⟩
abbrev main_v54 : Ref sig .tc := ⟨.hbm, 121, rfl⟩
abbrev main_v55 : Ref sig .tc := ⟨.hbm, 122, rfl⟩
abbrev main_v56 : Ref sig .tc := ⟨.hbm, 123, rfl⟩
abbrev main_v57 : Ref sig .tc := ⟨.hbm, 124, rfl⟩
abbrev main_v58 : Ref sig .tc := ⟨.hbm, 125, rfl⟩
abbrev main_v59 : Ref sig .tc := ⟨.hbm, 126, rfl⟩
abbrev main_v60 : Ref sig .tc := ⟨.hbm, 127, rfl⟩
abbrev main_cst_7 : Ref sig .tc := ⟨.hbm, 128, rfl⟩
abbrev main_v61 : Ref sig .tc := ⟨.hbm, 129, rfl⟩
abbrev main_v62 : Ref sig .tc := ⟨.hbm, 130, rfl⟩
abbrev main_call4_cst : Ref sig .tc := ⟨.hbm, 131, rfl⟩
abbrev main_call4_v8 : Ref sig .tc := ⟨.hbm, 132, rfl⟩
abbrev main_call4_cst_0 : Ref sig .tc := ⟨.hbm, 133, rfl⟩
abbrev main_call4_v9 : Ref sig .tc := ⟨.hbm, 134, rfl⟩
abbrev main_call4_cst_1 : Ref sig .tc := ⟨.hbm, 135, rfl⟩
abbrev main_call4_v10 : Ref sig .tc := ⟨.hbm, 136, rfl⟩
abbrev main_call4_cst_2 : Ref sig .tc := ⟨.hbm, 137, rfl⟩
abbrev main_call4_v11 : Ref sig .tc := ⟨.hbm, 138, rfl⟩
abbrev main_call4_cst_3 : Ref sig .tc := ⟨.hbm, 139, rfl⟩
abbrev main_call4_v12 : Ref sig .tc := ⟨.hbm, 140, rfl⟩
abbrev main_call4_cst_4 : Ref sig .tc := ⟨.hbm, 141, rfl⟩
abbrev main_call4_v13 : Ref sig .tc := ⟨.hbm, 142, rfl⟩
abbrev main_call4_cst_5 : Ref sig .tc := ⟨.hbm, 143, rfl⟩
abbrev main_call4_v14 : Ref sig .tc := ⟨.hbm, 144, rfl⟩
abbrev main_call4_cst_6 : Ref sig .tc := ⟨.hbm, 145, rfl⟩
abbrev main_call4_v15 : Ref sig .tc := ⟨.hbm, 146, rfl⟩
abbrev main_v63 : Ref sig .tc := ⟨.hbm, 147, rfl⟩
abbrev main_v64 : Ref sig .tc := ⟨.hbm, 148, rfl⟩
abbrev main_v65 : Ref sig .tc := ⟨.hbm, 149, rfl⟩
abbrev main_v66 : Ref sig .tc := ⟨.hbm, 150, rfl⟩
abbrev main_v67 : Ref sig .tc := ⟨.hbm, 151, rfl⟩
abbrev main_v68 : Ref sig .tc := ⟨.hbm, 152, rfl⟩
abbrev main_v69 : Ref sig .tc := ⟨.hbm, 153, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x2048 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S7x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x6x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S40x6 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S40x6 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S40x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S144x321 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x145 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S24x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x3 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x3 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x256x3 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S1024x2048 : Shape := ⟨2, ![1024, 2048]⟩
abbrev S1024x6 : Shape := ⟨2, ![1024, 6]⟩
abbrev S2048x7 : Shape := ⟨2, ![2048, 7]⟩
abbrev S9x18 : Shape := ⟨2, ![9, 18]⟩
abbrev S18 : Shape := ⟨1, ![18]⟩
abbrev S18x9 : Shape := ⟨2, ![18, 9]⟩
abbrev S9 : Shape := ⟨1, ![9]⟩
abbrev S9x6 : Shape := ⟨2, ![9, 6]⟩
abbrev S6 : Shape := ⟨1, ![6]⟩
abbrev S6x3 : Shape := ⟨2, ![6, 3]⟩
abbrev S3 : Shape := ⟨1, ![3]⟩
abbrev S6x18 : Shape := ⟨2, ![6, 18]⟩
abbrev S1024x3 : Shape := ⟨2, ![1024, 3]⟩
abbrev S2048x3 : Shape := ⟨2, ![2048, 3]⟩
abbrev S2048x1 : Shape := ⟨2, ![2048, 1]⟩
abbrev S2048 : Shape := ⟨1, ![2048]⟩
abbrev S1x2048x3 : Shape := ⟨3, ![1, 2048, 3]⟩
abbrev S1024x1x3 : Shape := ⟨3, ![1024, 1, 3]⟩
abbrev S1024x2048x3 : Shape := ⟨3, ![1024, 2048, 3]⟩
abbrev S1024x2048x9 : Shape := ⟨3, ![1024, 2048, 9]⟩
abbrev S1024x2048x6 : Shape := ⟨3, ![1024, 2048, 6]⟩
abbrev S1024x2048x18 : Shape := ⟨3, ![1024, 2048, 18]⟩
abbrev S1x1x18 : Shape := ⟨3, ![1, 1, 18]⟩
abbrev S1x1x9 : Shape := ⟨3, ![1, 1, 9]⟩
abbrev S1x1x6 : Shape := ⟨3, ![1, 1, 6]⟩
abbrev S1x1x3 : Shape := ⟨3, ![1, 1, 3]⟩
abbrev S_ : Shape := ⟨0, ![]⟩
abbrev S1x2048 : Shape := ⟨2, ![1, 2048]⟩
abbrev S1024x2048x1 : Shape := ⟨3, ![1024, 2048, 1]⟩

abbrev nBuf : Space → Nat
  | .hbm => 98
  | .vmem => 0
  | .smem => 0
  | _ => 0

abbrev bufTy : (tb : Table) → Fin (tcTables nBuf tb) → BufTy
  | .hbm, ⟨0, _⟩ => ⟨S1024x2048, .i1⟩
  | .hbm, ⟨1, _⟩ => ⟨S1024x6, .f32⟩
  | .hbm, ⟨2, _⟩ => ⟨S2048x7, .f32⟩
  | .hbm, ⟨3, _⟩ => ⟨S9x18, .f32⟩
  | .hbm, ⟨4, _⟩ => ⟨S18, .f32⟩
  | .hbm, ⟨5, _⟩ => ⟨S18x9, .f32⟩
  | .hbm, ⟨6, _⟩ => ⟨S9, .f32⟩
  | .hbm, ⟨7, _⟩ => ⟨S9x6, .f32⟩
  | .hbm, ⟨8, _⟩ => ⟨S6, .f32⟩
  | .hbm, ⟨9, _⟩ => ⟨S6x3, .f32⟩
  | .hbm, ⟨10, _⟩ => ⟨S3, .f32⟩
  | .hbm, ⟨11, _⟩ => ⟨S6x18, .f32⟩
  | .hbm, ⟨12, _⟩ => ⟨S18, .f32⟩
  | .hbm, ⟨13, _⟩ => ⟨S18x9, .f32⟩
  | .hbm, ⟨14, _⟩ => ⟨S9, .f32⟩
  | .hbm, ⟨15, _⟩ => ⟨S9x6, .f32⟩
  | .hbm, ⟨16, _⟩ => ⟨S6, .f32⟩
  | .hbm, ⟨17, _⟩ => ⟨S6x3, .f32⟩
  | .hbm, ⟨18, _⟩ => ⟨S3, .f32⟩
  | .hbm, ⟨19, _⟩ => ⟨S1024x3, .f32⟩
  | .hbm, ⟨20, _⟩ => ⟨S1024x3, .f32⟩
  | .hbm, ⟨21, _⟩ => ⟨S2048x3, .f32⟩
  | .hbm, ⟨22, _⟩ => ⟨S2048x3, .f32⟩
  | .hbm, ⟨23, _⟩ => ⟨S2048x1, .f32⟩
  | .hbm, ⟨24, _⟩ => ⟨S2048, .f32⟩
  | .hbm, ⟨25, _⟩ => ⟨S2048, .i32⟩
  | .hbm, ⟨26, _⟩ => ⟨S1x2048x3, .f32⟩
  | .hbm, ⟨27, _⟩ => ⟨S1024x1x3, .f32⟩
  | .hbm, ⟨28, _⟩ => ⟨S1024x2048x3, .f32⟩
  | .hbm, ⟨29, _⟩ => ⟨S1024x2048x3, .f32⟩
  | .hbm, ⟨30, _⟩ => ⟨S1024x2048x3, .f32⟩
  | .hbm, ⟨31, _⟩ => ⟨S1x2048x3, .f32⟩
  | .hbm, ⟨32, _⟩ => ⟨S1024x2048x3, .f32⟩
  | .hbm, ⟨33, _⟩ => ⟨S1024x1x3, .f32⟩
  | .hbm, ⟨34, _⟩ => ⟨S1024x2048x3, .f32⟩
  | .hbm, ⟨35, _⟩ => ⟨S1024x2048x9, .f32⟩
  | .hbm, ⟨36, _⟩ => ⟨S1024x2048x6, .f32⟩
  | .hbm, ⟨37, _⟩ => ⟨S1024x2048x18, .f32⟩
  | .hbm, ⟨38, _⟩ => ⟨S1x1x18, .f32⟩
  | .hbm, ⟨39, _⟩ => ⟨S1024x2048x18, .f32⟩
  | .hbm, ⟨40, _⟩ => ⟨S1024x2048x18, .f32⟩
  | .hbm, ⟨41, _⟩ => ⟨S1024x2048x18, .f32⟩
  | .hbm, ⟨42, _⟩ => ⟨S1024x2048x9, .f32⟩
  | .hbm, ⟨43, _⟩ => ⟨S1x1x9, .f32⟩
  | .hbm, ⟨44, _⟩ => ⟨S1024x2048x9, .f32⟩
  | .hbm, ⟨45, _⟩ => ⟨S1024x2048x9, .f32⟩
  | .hbm, ⟨46, _⟩ => ⟨S1024x2048x9, .f32⟩
  | .hbm, ⟨47, _⟩ => ⟨S1024x2048x6, .f32⟩
  | .hbm, ⟨48, _⟩ => ⟨S1x1x6, .f32⟩
  | .hbm, ⟨49, _⟩ => ⟨S1024x2048x6, .f32⟩
  | .hbm, ⟨50, _⟩ => ⟨S1024x2048x6, .f32⟩
  | .hbm, ⟨51, _⟩ => ⟨S1024x2048x6, .f32⟩
  | .hbm, ⟨52, _⟩ => ⟨S1024x2048x3, .f32⟩
  | .hbm, ⟨53, _⟩ => ⟨S1x1x3, .f32⟩
  | .hbm, ⟨54, _⟩ => ⟨S1024x2048x3, .f32⟩
  | .hbm, ⟨55, _⟩ => ⟨S1024x2048x3, .f32⟩
  | .hbm, ⟨56, _⟩ => ⟨S1024x2048x18, .f32⟩
  | .hbm, ⟨57, _⟩ => ⟨S1x1x18, .f32⟩
  | .hbm, ⟨58, _⟩ => ⟨S1024x2048x18, .f32⟩
  | .hbm, ⟨59, _⟩ => ⟨S1024x2048x18, .f32⟩
  | .hbm, ⟨60, _⟩ => ⟨S1024x2048x18, .f32⟩
  | .hbm, ⟨61, _⟩ => ⟨S1024x2048x9, .f32⟩
  | .hbm, ⟨62, _⟩ => ⟨S1x1x9, .f32⟩
  | .hbm, ⟨63, _⟩ => ⟨S1024x2048x9, .f32⟩
  | .hbm, ⟨64, _⟩ => ⟨S1024x2048x9, .f32⟩
  | .hbm, ⟨65, _⟩ => ⟨S1024x2048x9, .f32⟩
  | .hbm, ⟨66, _⟩ => ⟨S1024x2048x6, .f32⟩
  | .hbm, ⟨67, _⟩ => ⟨S1x1x6, .f32⟩
  | .hbm, ⟨68, _⟩ => ⟨S1024x2048x6, .f32⟩
  | .hbm, ⟨69, _⟩ => ⟨S1024x2048x6, .f32⟩
  | .hbm, ⟨70, _⟩ => ⟨S1024x2048x6, .f32⟩
  | .hbm, ⟨71, _⟩ => ⟨S1024x2048x3, .f32⟩
  | .hbm, ⟨72, _⟩ => ⟨S1x1x3, .f32⟩
  | .hbm, ⟨73, _⟩ => ⟨S1024x2048x3, .f32⟩
  | .hbm, ⟨74, _⟩ => ⟨S1024x2048x3, .f32⟩
  | .hbm, ⟨75, _⟩ => ⟨S_, .i32⟩
  | .hbm, ⟨76, _⟩ => ⟨S2048, .i32⟩
  | .hbm, ⟨77, _⟩ => ⟨S2048, .i1⟩
  | .hbm, ⟨78, _⟩ => ⟨S1x2048, .i1⟩
  | .hbm, ⟨79, _⟩ => ⟨S1024x2048, .i1⟩
  | .hbm, ⟨80, _⟩ => ⟨S1024x2048, .i1⟩
  | .hbm, ⟨81, _⟩ => ⟨S1024x2048, .f32⟩
  | .hbm, ⟨82, _⟩ => ⟨S_, .i32⟩
  | .hbm, ⟨83, _⟩ => ⟨S2048, .i32⟩
  | .hbm, ⟨84, _⟩ => ⟨S2048, .i1⟩
  | .hbm, ⟨85, _⟩ => ⟨S1x2048, .i1⟩
  | .hbm, ⟨86, _⟩ => ⟨S1024x2048, .i1⟩
  | .hbm, ⟨87, _⟩ => ⟨S1024x2048, .i1⟩
  | .hbm, ⟨88, _⟩ => ⟨S1024x2048, .f32⟩
  | .hbm, ⟨89, _⟩ => ⟨S1024x2048x1, .f32⟩
  | .hbm, ⟨90, _⟩ => ⟨S1024x2048x3, .f32⟩
  | .hbm, ⟨91, _⟩ => ⟨S1024x2048x3, .f32⟩
  | .hbm, ⟨92, _⟩ => ⟨S1024x2048x1, .f32⟩
  | .hbm, ⟨93, _⟩ => ⟨S1024x2048x3, .f32⟩
  | .hbm, ⟨94, _⟩ => ⟨S1024x2048x3, .f32⟩
  | .hbm, ⟨95, _⟩ => ⟨S1024x2048x3, .f32⟩
  | .hbm, ⟨96, _⟩ => ⟨S_, .f32⟩
  | .hbm, ⟨97, _⟩ => ⟨S1024x3, .f32⟩
  | _, _ => ⟨S1024x2048, .i1⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_c : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_c_0 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_cst : Ref sig .tc := ⟨.hbm, 96, rfl⟩
abbrev main_v75 : Ref sig .tc := ⟨.hbm, 97, rfl⟩

abbrev nD : Nat := 1
abbrev τ : Topo := Topo.v7x

variable {F : FTy → Type} [FloatOps F]
-- ==== Proof.RefFrame.lean ====
/- The reference's frame: it runs, its arguments end unchanged, and every semaphore counter is zero at the end. -/
module

public import proofs.«01_k».proof.Defs
public import proofs.«01_k».proof.Proof.Gen.ReferenceIdeal
public import proofs.«01_k».proof.Proof.Gen.ReferenceIdeal.Run
public import Idealize.ShloMosaic.Lib.Claim

@[expose] public section

set_option maxRecDepth 16384

noncomputable section

namespace Cert.Proof

open Idealize.ShloMosaic Idealize.SL.Sem

/-- The reference's frame: its run leaves every argument as it was, and it has no semaphore at all. -/
theorem quiescent_reference : Cert.quiescent_ReferenceIdeal := fun m g _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m g)

end Cert.Proof

end
-- ==== Proof.Group.lean ====
/- The 32 groups of the kernel body. The body treats its 256 centre particles eight at a time, with the same operations
   on each group of eight: `grp g` is the text of group `g`, and `out_groups` says the block the body writes is assembled
   from the 32 of them. Every later module reads `grp` at one symbolic group. -/
module

public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.Proof.Group

open Idealize.ShloMosaic Idealize.ShloMosaic.TcCoe Idealize.SL.Sem
open Cert.KernelIdeal Cert.KernelIdeal.Gen

variable {F : FTy → Type} [FloatOps F]

/-- One column of the 256 lies inside the array of centre terms. -/
theorem colSlice (n : Nat) (h : n < 256) : S40x256.Slices ![0, n] S40x1 := by
  refine ⟨rfl, fun a => ?_⟩
  fin_cases a
  · exact Nat.le_refl _
  · show n + 1 ≤ 256
    omega

/-- The eight rows of one group lie inside the 256 rows of weights. -/
theorem rowSlice (g : Fin 32) : S256x2048.Slices ![8 * g.val, 0] S8x2048 := by
  refine ⟨rfl, fun a => ?_⟩
  fin_cases a
  · show 8 * g.val + 8 ≤ 256
    omega
  · exact Nat.le_refl _

/-- The first layer before its tanh, for centre particle `n` of the block: the neighbour part plus the centre column. -/
def pre (v8 : FVec F S40x2048 .f32) (v17 : FVec F S40x256 .f32) (n : Nat) (h : n < 256) : FVec F S40x2048 .f32 :=
  addf v8 (broadcastTo S40x2048 (extractStridedSlice S40x1 ![0, n] v17 (colSlice n h)) broadcasts_S40x1_S40x2048)

/-- The first layer of a group: its eight particles one below the other, and the row of ones. -/
def lay0 (v8 : FVec F S40x2048 .f32) (v17 : FVec F S40x256 .f32) (v26 : FVec F S1x2048 .f32) (g : Fin 32) : FVec F S321x2048 .bf16 :=
  truncf .bf16 (tanh (concatenate S321x2048 0 [⟨S40x2048, pre v8 v17 (8 * g.val + 0) (by omega)⟩, ⟨S40x2048, pre v8 v17 (8 * g.val + 1) (by omega)⟩, ⟨S40x2048, pre v8 v17 (8 * g.val + 2) (by omega)⟩, ⟨S40x2048, pre v8 v17 (8 * g.val + 3) (by omega)⟩, ⟨S40x2048, pre v8 v17 (8 * g.val + 4) (by omega)⟩, ⟨S40x2048, pre v8 v17 (8 * g.val + 5) (by omega)⟩, ⟨S40x2048, pre v8 v17 (8 * g.val + 6) (by omega)⟩, ⟨S40x2048, pre v8 v17 (8 * g.val + 7) (by omega)⟩, ⟨S1x2048, v26⟩] concatenates_S40x2048_S40x2048_S40x2048_S40x2048_S40x2048_S40x2048_S40x2048_S40x2048_S1x2048_S321x2048_d0)) bitsLt_bf16_f32

/-- The second layer of a group, with the row of ones below. -/
def lay1 (w1 : Vec F S144x321 .bf16) (x : FVec F S321x2048 .bf16) (v26 : FVec F S1x2048 .f32) : FVec F S145x2048 .bf16 :=
  truncf .bf16 (concatenate S145x2048 0 [⟨S144x2048, tanh (matmul dot_S144x321_S321x2048_S144x2048_1_0_0_1_n_n none
    (shapeCast S144x321 w1 shapeCasts_S144x321_S144x321 : FVec F S144x321 .bf16) x (constant S144x2048 .f32 0x00000000#32))⟩, ⟨S1x2048, v26⟩]
    concatenates_S144x2048_S1x2048_S145x2048_d0) bitsLt_bf16_f32

/-- The third layer of a group. -/
def lay2 (w2 : Vec F S128x145 .bf16) (x : FVec F S145x2048 .bf16) : FVec F S128x2048 .f32 :=
  tanh (matmul dot_S128x145_S145x2048_S128x2048_1_0_0_1_n_n none
    (shapeCast S128x145 w2 shapeCasts_S128x145_S128x145 : FVec F S128x145 .bf16) x (constant S128x2048 .f32 0x00000000#32))

/-- The weights of one group's eight rows, repeated over six feature rows. -/
def six (v : FVec F S256x2048 .f32) (g : Fin 32) : FVec F S8x6x2048 .f32 :=
  broadcastTo S8x6x2048 (shapeCast S8x1x2048 (shapeCast S8x1x2048 (extractStridedSlice S8x2048 ![8 * g.val, 0] v (rowSlice g))
    shapeCasts_S8x2048_S8x1x2048) shapeCasts_S8x1x2048_S8x1x2048) broadcasts_S8x1x2048_S8x6x2048

/-- The weight of each of a group's 128 feature rows. -/
def wsel (v22 v24 : FVec F S256x2048 .f32) (v25 : FVec F S8x4x2048 .f32) (g : Fin 32) : FVec F S128x2048 .f32 :=
  shapeCast S128x2048 (concatenate S8x16x2048 1 [⟨S8x6x2048, six v22 g⟩, ⟨S8x6x2048, six v24 g⟩, ⟨S8x4x2048, v25⟩]
    concatenates_S8x6x2048_S8x6x2048_S8x4x2048_S8x16x2048_d1) shapeCasts_S8x16x2048_S128x2048

/-- The weighted sum of each feature row over the neighbours. -/
def rowSum (x w : FVec F S128x2048 .f32) : FVec F S128x1 .f32 :=
  shapeCast S128x1 (multiReduction .add [1] S128 (mulf x w) 0x00000000#32 reduces_S128x2048_S128 (.inl rfl) rfl : FVec F S128 .f32)
    shapeCasts_S128_S128x1

/-- The last layer of a group: its eight particles' three channels. -/
def lay3 (w3 : Vec F S24x128 .f32) (s : FVec F S128x1 .f32) : FVec F S8x3 .f32 :=
  shapeCast S8x3 (matmul dot_S24x128_S128x1_S24x1_1_0_0_1_n_n none (shapeCast S24x128 w3 shapeCasts_S24x128_S24x128 : FVec F S24x128 .f32)
    s (constant S24x1 .f32 0x00000000#32)) shapeCasts_S24x1_S8x3

/-- Group `g` of the body. -/
def grp (v8 : FVec F S40x2048 .f32) (v17 : FVec F S40x256 .f32) (v22 v24 : FVec F S256x2048 .f32) (v25 : FVec F S8x4x2048 .f32)
    (v26 : FVec F S1x2048 .f32) (w1 : Vec F S144x321 .bf16) (w2 : Vec F S128x145 .bf16) (w3 : Vec F S24x128 .f32) (g : Fin 32) :
    FVec F S8x3 .f32 :=
  lay3 w3 (rowSum (lay2 w2 (lay1 w1 (lay0 v8 v17 v26 g) v26)) (wsel v22 v24 v25 g))

/-- Thirty-two arrays of eight rows make one of 256. -/
theorem stack (f : Fin 32 → FVec F S8x3 .f32) :
    Shape.Concatenates ((List.ofFn fun n : Fin 32 => (⟨S8x3, f n⟩ : (s : Shape) × (s.Idx → F .f32))).map (·.1)) S256x3 0 :=
  concatenates_S8x3_S8x3_S8x3_S8x3_S8x3_S8x3_S8x3_S8x3_S8x3_S8x3_S8x3_S8x3_S8x3_S8x3_S8x3_S8x3_S8x3_S8x3_S8x3_S8x3_S8x3_S8x3_S8x3_S8x3_S8x3_S8x3_S8x3_S8x3_S8x3_S8x3_S8x3_S8x3_S256x3_d0

set_option maxHeartbeats 1600000 in
/-- The block the body writes, by its 32 groups. -/
theorem out_groups (x0 : Vec F S256x2048 .i8) (x1 : Vec F S7x2048 .f32) (x2 : Vec F S1x6x256 .f32) (x3 : Vec F S40x6 .f32)
    (x4 : Vec F S40x6 .f32) (x5 : Vec F S40x1 .f32) (x6 : Vec F S144x321 .bf16) (x7 : Vec F S128x145 .bf16) (x8 : Vec F S24x128 .f32)
    (x9 : Vec F S1x3 .f32) (x10 : Vec F S1x3 .f32) :
    out0_11 x0 x1 x2 x3 x4 x5 x6 x7 x8 x9 x10 = View.canon [⟨r0_9, k0_pay1 (concatenate S256x3 0
      (List.ofFn fun n : Fin 32 => (⟨S8x3, grp (k0_pay134 x0 x1 x2 x3 x4 x5 x6 x7 x8 x9 x10) (k0_pay135 x0 x1 x2 x3 x4 x5 x6 x7 x8 x9 x10)
        (k0_pay136 x0 x1 x2 x3 x4 x5 x6 x7 x8 x9 x10) (k0_pay137 x0 x1 x2 x3 x4 x5 x6 x7 x8 x9 x10) (k0_pay138 x0 x1 x2 x3 x4 x5 x6 x7 x8 x9 x10)
        (k0_pay139 x0 x1 x2 x3 x4 x5 x6 x7 x8 x9 x10) (View.ld x6 r0_5) (View.ld x7 r0_6) (View.ld x8 r0_7) n⟩ : (s : Shape) × (s.Idx → F .f32))) (stack _))
      (k0_pay132 (k0_pay136 x0 x1 x2 x3 x4 x5 x6 x7 x8 x9 x10)) (k0_pay133 (k0_pay137 x0 x1 x2 x3 x4 x5 x6 x7 x8 x9 x10)) (View.ld x9 r0_8) (View.ld x10 r0_8)⟩] := by
  rfl

end Cert.Proof.Group

end
-- ==== Proof.GroupAt.lean ====
/- One group of the kernel body read at an index. The operands `w1`, `w2`, `w3` are block-diagonal, so each particle of the
   group reads only its own rows: every product with a block off the diagonal is a product with zero. -/
module

public import proofs.«01_k».proof.Proof.Group

@[expose] public section

set_option maxRecDepth 16384

noncomputable section

namespace Cert.Proof.Group

open Idealize.ShloMosaic Idealize.ShloMosaic.TcCoe Idealize.SL.Sem
open Cert.KernelIdeal Cert.KernelIdeal.Gen

/-- A row of a block-diagonal matrix times a column: only the block on the diagonal is left. -/
theorem sum_block {C U : Nat} (hU : U = 8 * C) (a : Fin 8) (W X : Fin U → EReal) (A : Fin C → EReal)
    (hW : ∀ (b : Fin 8) (k : Fin C) (h : C * b.val + k.val < U), W ⟨C * b.val + k.val, h⟩ = if a = b then A k else 0)
    (hlt : ∀ k : Fin C, C * a.val + k.val < U) :
    ∑ x : Fin U, W x * X x = ∑ k : Fin C, A k * X ⟨C * a.val + k.val, hlt k⟩ := by
  subst hU
  rw [Fin.sum_univ_tiles 8 C rfl]
  rw [Finset.sum_eq_single a]
  · refine Finset.sum_congr rfl fun k _ => ?_
    have e : ∀ h, (⟨a.val * C + k.val, h⟩ : Fin (8 * C)) = ⟨C * a.val + k.val, hlt k⟩ := fun h => Fin.ext (by
      show a.val * C + k.val = C * a.val + k.val
      rw [Nat.mul_comm])
    rw [e, hW a k, if_pos rfl]
  · intro b _ hb
    refine Finset.sum_eq_zero fun k _ => ?_
    have hlt' : C * b.val + k.val < 8 * C := by
      have h1 : C * b.val + C * 1 ≤ C * 8 := by
        rw [← Nat.mul_add]
        exact Nat.mul_le_mul_left C b.isLt
      have := k.isLt
      omega
    have e : ∀ h, (⟨b.val * C + k.val, h⟩ : Fin (8 * C)) = ⟨C * b.val + k.val, hlt'⟩ := fun h => Fin.ext (by
      show b.val * C + k.val = C * b.val + k.val
      rw [Nat.mul_comm])
    rw [e, hW b k, if_neg (fun h => hb h.symm), zero_mul]
  · intro h
    exact absurd (Finset.mem_univ a) h

/-- One row of the first layer before its tanh. -/
theorem pre_at (v8 : FVec Ideal S40x2048 .f32) (v17 : FVec Ideal S40x256 .f32) (n : Nat) (hn : n < 256) (k : Fin 40) (j : Fin 2048) :
    pre v8 v17 n hn (ix2 k j) = v8 (ix2 k j) + v17 (ix2 k ⟨n, hn⟩) := by
  pointwise [pre]

/-- The first layer at particle `i`'s row `k`. -/
theorem lay0_at (v8 : FVec Ideal S40x2048 .f32) (v17 : FVec Ideal S40x256 .f32) (v26 : FVec Ideal S1x2048 .f32) (g : Fin 32)
    (i : Fin 8) (k : Fin 40) (j : Fin 2048) (h : 40 * i.val + k.val < 321) :
    lay0 v8 v17 v26 g (ix2 ⟨40 * i.val + k.val, h⟩ j)
      = Ideal.tanh (v8 (ix2 k j) + v17 (ix2 k ⟨8 * g.val + i.val, by omega⟩)) := by
  refine congrArg Ideal.tanh ((?_ : _ = pre v8 v17 (8 * g.val + i.val) (by omega) (ix2 k j)).trans (pre_at v8 v17 _ _ k j))
  have hk : i.val < 9 := by omega
  refine concatenate_apply_piece (t := S321x2048) 0 _ _ _ i.val ?_ S40x2048 (pre v8 v17 (8 * g.val + i.val) (by omega)) ?_ rfl
    (40 * i.val) ?_ (ix2 k j) (fun b hb => ?_) rfl
  · exact hk
  · fin_cases i <;> rfl
  · fin_cases i <;> rfl
  · fin_cases b
    · exact absurd rfl hb
    · rfl

/-- The row of ones below the first layer. -/
theorem lay0_last (v8 : FVec Ideal S40x2048 .f32) (v17 : FVec Ideal S40x256 .f32) (v26 : FVec Ideal S1x2048 .f32) (g : Fin 32)
    (j : Fin 2048) : lay0 v8 v17 v26 g (ix2 320 j) = Ideal.tanh (v26 (ix2 0 j)) := by
  refine congrArg Ideal.tanh ?_
  refine concatenate_apply_piece (t := S321x2048) 0 _ _ _ 8 ?_ S1x2048 v26 rfl rfl 320 rfl (ix2 0 j) (fun b hb => ?_) rfl
  · exact Nat.lt_succ_self 8
  · fin_cases b
    · exact absurd rfl hb
    · rfl

/-- The second layer at particle `i`'s row `p`. -/
theorem lay1_at (w1 : Vec Ideal S144x321 .bf16) (x : FVec Ideal S321x2048 .bf16) (v26 : FVec Ideal S1x2048 .f32)
    (A1 : Fin 18 → Fin 40 → EReal) (c1 : Fin 18 → EReal)
    (hw : ∀ (a b : Fin 8) (p : Fin 18) (k : Fin 40) (h : 18 * a.val + p.val < 144) (h' : 40 * b.val + k.val < 321),
      w1 (ix2 ⟨18 * a.val + p.val, h⟩ ⟨40 * b.val + k.val, h'⟩) = if a = b then A1 p k else 0)
    (hc : ∀ (a : Fin 8) (p : Fin 18) (h : 18 * a.val + p.val < 144), w1 (ix2 ⟨18 * a.val + p.val, h⟩ 320) = c1 p)
    (i : Fin 8) (p : Fin 18) (j : Fin 2048) (h : 18 * i.val + p.val < 145) :
    lay1 w1 x v26 (ix2 ⟨18 * i.val + p.val, h⟩ j)
      = Ideal.tanh ((∑ k : Fin 40, A1 p k * x (ix2 ⟨40 * i.val + k.val, by omega⟩ j)) + c1 p * x (ix2 320 j)) := by
  have hlt : 18 * i.val + p.val < 144 := by omega
  pointwise [lay1]
  rw [dif_pos hlt]
  refine congrArg Ideal.tanh ((Fin.sum_univ_castSucc (n := 320) _).trans (Ideal.add_congr ?_ (Ideal.mul_congr (hc i p hlt) rfl)))
  exact sum_block (C := 40) (U := 320) rfl i (fun y => w1 (ix2 ⟨18 * i.val + p.val, hlt⟩ y.castSucc)) (fun y => x (ix2 y.castSucc j)) (A1 p)
    (fun b k h' => hw i b p k hlt (by omega)) (fun k => by omega)

/-- The row of ones below the second layer. -/
theorem lay1_last (w1 : Vec Ideal S144x321 .bf16) (x : FVec Ideal S321x2048 .bf16) (v26 : FVec Ideal S1x2048 .f32) (j : Fin 2048) :
    lay1 w1 x v26 (ix2 144 j) = v26 (ix2 0 j) := by
  pointwise [lay1]

/-- The third layer at particle `i`'s row `q`. -/
theorem lay2_at (w2 : Vec Ideal S128x145 .bf16) (x : FVec Ideal S145x2048 .bf16)
    (A2 : Fin 16 → Fin 18 → EReal) (c2 : Fin 16 → EReal)
    (hw : ∀ (a b : Fin 8) (q : Fin 16) (p : Fin 18) (h : 16 * a.val + q.val < 128) (h' : 18 * b.val + p.val < 145),
      w2 (ix2 ⟨16 * a.val + q.val, h⟩ ⟨18 * b.val + p.val, h'⟩) = if a = b then A2 q p else 0)
    (hc : ∀ (a : Fin 8) (q : Fin 16) (h : 16 * a.val + q.val < 128), w2 (ix2 ⟨16 * a.val + q.val, h⟩ 144) = c2 q)
    (i : Fin 8) (q : Fin 16) (j : Fin 2048) (h : 16 * i.val + q.val < 128) :
    lay2 w2 x (ix2 ⟨16 * i.val + q.val, h⟩ j)
      = Ideal.tanh ((∑ p : Fin 18, A2 q p * x (ix2 ⟨18 * i.val + p.val, by omega⟩ j)) + c2 q * x (ix2 144 j)) := by
  pointwise [lay2]
  refine congrArg Ideal.tanh ((Fin.sum_univ_castSucc (n := 144) _).trans (Ideal.add_congr ?_ (Ideal.mul_congr (hc i q h) rfl)))
  exact sum_block (C := 18) (U := 144) rfl i (fun y => w2 (ix2 ⟨16 * i.val + q.val, h⟩ y.castSucc)) (fun y => x (ix2 y.castSucc j)) (A2 q)
    (fun b k h' => hw i b q k h (by omega)) (fun k => by omega)

/-- The weight of particle `i`'s feature row `q`. -/
theorem wsel_at (v22 v24 : FVec Ideal S256x2048 .f32) (v25 : FVec Ideal S8x4x2048 .f32) (h25 : ∀ x, v25 x = 0) (g : Fin 32)
    (i : Fin 8) (q : Fin 16) (j : Fin 2048) (h : 16 * i.val + q.val < 128) :
    wsel v22 v24 v25 g (ix2 ⟨16 * i.val + q.val, h⟩ j)
      = if q.val < 6 then v22 (ix2 ⟨8 * g.val + i.val, by omega⟩ j) else if q.val < 12 then v24 (ix2 ⟨8 * g.val + i.val, by omega⟩ j) else 0 := by
  pointwise [wsel, six]
  by_cases h1 : q.val < 6
  · rw [dif_pos h1, if_pos h1]
  · rw [dif_neg h1, if_neg h1]
    by_cases h2 : q.val < 12
    · rw [dif_pos (by omega), if_pos h2]
    · rw [dif_neg (by omega), if_neg h2]
      exact h25 _

/-- The weighted sum of a row. -/
theorem rowSum_at (x w : FVec Ideal S128x2048 .f32) (r : Fin 128) :
    rowSum x w (ix2 r 0) = ∑ j : Fin 2048, x (ix2 r j) * w (ix2 r j) := by
  pointwise [rowSum]

/-- The last layer at particle `i`'s channel `c`. -/
theorem lay3_at (w3 : Vec Ideal S24x128 .f32) (s : FVec Ideal S128x1 .f32) (A3 : Fin 3 → Fin 16 → EReal)
    (hw : ∀ (a b : Fin 8) (c : Fin 3) (q : Fin 16) (h : 3 * a.val + c.val < 24) (h' : 16 * b.val + q.val < 128),
      w3 (ix2 ⟨3 * a.val + c.val, h⟩ ⟨16 * b.val + q.val, h'⟩) = if a = b then A3 c q else 0)
    (i : Fin 8) (c : Fin 3) :
    lay3 w3 s (ix2 i c) = ∑ q : Fin 16, A3 c q * s (ix2 ⟨16 * i.val + q.val, by omega⟩ 0) := by
  have hlt : 3 * i.val + c.val < 24 := by omega
  pointwise [lay3]
  have e : ∀ h, (⟨i.val * 3 + c.val, h⟩ : Fin 24) = ⟨3 * i.val + c.val, hlt⟩ := fun h => Fin.ext (by
    show i.val * 3 + c.val = 3 * i.val + c.val
    rw [Nat.mul_comm])
  simp only [e]
  exact sum_block (C := 16) (U := 128) rfl i (fun y => w3 (ix2 ⟨3 * i.val + c.val, hlt⟩ y)) (fun y => s (ix2 y 0)) (A3 c)
    (fun b k h' => hw i b c k hlt h') (fun k => by omega)

/-- The first layer of one particle at one neighbour. -/
def u0 (x y : Fin 40 → EReal) (k : Fin 40) : EReal := Ideal.tanh (x k + y k)

/-- The second layer of one particle at one neighbour. -/
def u1 (A1 : Fin 18 → Fin 40 → EReal) (c1 : Fin 18 → EReal) (h : Fin 40 → EReal) (p : Fin 18) : EReal :=
  Ideal.tanh ((∑ k : Fin 40, A1 p k * h k) + c1 p * Ideal.tanh 1)

/-- The third layer of one particle at one neighbour. -/
def u2 (A2 : Fin 16 → Fin 18 → EReal) (c2 : Fin 16 → EReal) (h : Fin 18 → EReal) (q : Fin 16) : EReal :=
  Ideal.tanh ((∑ p : Fin 18, A2 q p * h p) + c2 q)

/-- A group at its particle `i`, channel `c`. -/
theorem grp_at (v8 : FVec Ideal S40x2048 .f32) (v17 : FVec Ideal S40x256 .f32) (v22 v24 : FVec Ideal S256x2048 .f32)
    (v25 : FVec Ideal S8x4x2048 .f32) (v26 : FVec Ideal S1x2048 .f32) (h25 : ∀ x, v25 x = 0) (h26 : ∀ x, v26 x = 1)
    (w1 : Vec Ideal S144x321 .bf16) (w2 : Vec Ideal S128x145 .bf16) (w3 : Vec Ideal S24x128 .f32)
    (A1 : Fin 18 → Fin 40 → EReal) (c1 : Fin 18 → EReal) (A2 : Fin 16 → Fin 18 → EReal) (c2 : Fin 16 → EReal) (A3 : Fin 3 → Fin 16 → EReal)
    (hw1 : ∀ (a b : Fin 8) (p : Fin 18) (k : Fin 40) (h : 18 * a.val + p.val < 144) (h' : 40 * b.val + k.val < 321),
      w1 (ix2 ⟨18 * a.val + p.val, h⟩ ⟨40 * b.val + k.val, h'⟩) = if a = b then A1 p k else 0)
    (hc1 : ∀ (a : Fin 8) (p : Fin 18) (h : 18 * a.val + p.val < 144), w1 (ix2 ⟨18 * a.val + p.val, h⟩ 320) = c1 p)
    (hw2 : ∀ (a b : Fin 8) (q : Fin 16) (p : Fin 18) (h : 16 * a.val + q.val < 128) (h' : 18 * b.val + p.val < 145),
      w2 (ix2 ⟨16 * a.val + q.val, h⟩ ⟨18 * b.val + p.val, h'⟩) = if a = b then A2 q p else 0)
    (hc2 : ∀ (a : Fin 8) (q : Fin 16) (h : 16 * a.val + q.val < 128), w2 (ix2 ⟨16 * a.val + q.val, h⟩ 144) = c2 q)
    (hw3 : ∀ (a b : Fin 8) (c : Fin 3) (q : Fin 16) (h : 3 * a.val + c.val < 24) (h' : 16 * b.val + q.val < 128),
      w3 (ix2 ⟨3 * a.val + c.val, h⟩ ⟨16 * b.val + q.val, h'⟩) = if a = b then A3 c q else 0)
    (g : Fin 32) (i : Fin 8) (c : Fin 3) :
    grp v8 v17 v22 v24 v25 v26 w1 w2 w3 g (ix2 i c)
      = ∑ q : Fin 16, A3 c q * ∑ j : Fin 2048,
          u2 A2 c2 (u1 A1 c1 (u0 (fun k => v8 (ix2 k j)) (fun k => v17 (ix2 k ⟨8 * g.val + i.val, by omega⟩)))) q
          * (if q.val < 6 then v22 (ix2 ⟨8 * g.val + i.val, by omega⟩ j) else if q.val < 12 then v24 (ix2 ⟨8 * g.val + i.val, by omega⟩ j) else 0) := by
  refine (lay3_at w3 _ A3 hw3 i c).trans (Finset.sum_congr rfl fun q _ => Ideal.mul_congr rfl ?_)
  refine (rowSum_at _ _ _).trans (Finset.sum_congr rfl fun j _ => Ideal.mul_congr ?_ (wsel_at v22 v24 v25 h25 g i q j _))
  refine (lay2_at w2 _ A2 c2 hw2 hc2 i q j _).trans (congrArg Ideal.tanh ?_)
  refine Ideal.add_congr (Finset.sum_congr rfl fun p _ => Ideal.mul_congr rfl ?_) ?_
  · refine (lay1_at w1 _ v26 A1 c1 hw1 hc1 i p j _).trans (congrArg Ideal.tanh ?_)
    refine Ideal.add_congr (Finset.sum_congr rfl fun k _ => Ideal.mul_congr rfl (lay0_at v8 v17 v26 g i k j _)) ?_
    rw [lay0_last, h26]
  · rw [lay1_last, h26, mul_one]

end Cert.Proof.Group

end
-- ==== Proof.Body.lean ====
/- What one grid point writes, read at an index, over the blocks it reads. -/
module

public import proofs.«01_k».proof.Proof.GroupAt
public import Idealize.ShloMosaic.Lib.Pointwise

@[expose] public section

set_option maxRecDepth 16384

noncomputable section

namespace Cert.Proof.Group

open Idealize.ShloMosaic Idealize.ShloMosaic.TcCoe Idealize.SL.Sem
open Cert.KernelIdeal Cert.KernelIdeal.Gen

theorem pay4_at (x1 : Vec Ideal S7x2048 .f32) (x3 : Vec Ideal S40x6 .f32) (k : Fin 40) (j : Fin 2048) :
    k0_pay4 x1 x3 (ix2 k j) = ∑ d : Fin 6, x3 (ix2 k d) * x1 (ix2 ⟨d.val, by omega⟩ j) := by
  pointwise [k0_pay4, k0_pay2]

theorem pay5_at (x4 : Vec Ideal S40x6 .f32) (x2 : Vec Ideal S1x6x256 .f32) (x5 : Vec Ideal S40x1 .f32) (k : Fin 40) (i : Fin 256) :
    k0_pay5 x4 x2 x5 (ix2 k i) = (∑ d : Fin 6, x4 (ix2 k d) * x2 (ix3 0 d i)) + x5 (ix2 k 0) := by
  pointwise [k0_pay5]

/-- A mask byte as a number. -/
def mval (b : BitVec 8) : EReal := FloatOps.sitofp (F := Ideal) .f32 b

theorem pay7_at (x1 : Vec Ideal S7x2048 .f32) (x0 : Vec Ideal S256x2048 .i8) (i : Fin 256) (j : Fin 2048) :
    k0_pay7 x1 x0 (ix2 i j) = mval (x0 (ix2 i j)) * (1 - x1 (ix2 6 j)) := by
  pointwise [k0_pay7, k0_pay6, k0_pay3, k0_pay2, mval]

theorem pay8_at (x1 : Vec Ideal S7x2048 .f32) (x0 : Vec Ideal S256x2048 .i8) (i : Fin 256) (j : Fin 2048) :
    k0_pay8 x1 x0 (ix2 i j) = mval (x0 (ix2 i j)) * x1 (ix2 6 j) := by
  pointwise [k0_pay8, k0_pay6, k0_pay3, k0_pay2, mval]

theorem pay9_at (y) : k0_pay9 (F := Ideal) y = 0 := by
  pointwise [k0_pay9]

theorem pay10_at (y) : k0_pay10 (F := Ideal) y = 1 := by
  pointwise [k0_pay10]

theorem pay1_at (s : FVec Ideal S256x3 .f32) (a b : FVec Ideal S256x2048 .f32) (x9 x10 : Vec Ideal S1x3 .f32) (i : Fin 256) (e : Fin 3) :
    k0_pay1 s (k0_pay132 a) (k0_pay133 b) x9 x10 (ix3 0 i e)
      = s (ix2 i e) + (∑ j : Fin 2048, a (ix2 i j)) * x9 (ix2 0 e) + (∑ j : Fin 2048, b (ix2 i j)) * x10 (ix2 0 e) := by
  pointwise [k0_pay1, k0_pay132, k0_pay133]

/-- The 32 groups laid one below the other, read at particle `i`. -/
theorem groups_at (f : Fin 32 → FVec Ideal S8x3 .f32) (i : Fin 256) (e : Fin 3) :
    concatenate S256x3 0 (List.ofFn fun n : Fin 32 => (⟨S8x3, f n⟩ : (s : Shape) × (s.Idx → Ideal .f32))) (stack f) (ix2 i e)
      = f ⟨i.val / 8, by omega⟩ (ix2 ⟨i.val % 8, by omega⟩ e) := by
  refine concatenate_ofFn_apply (s₁ := S8x3) (t := S256x3) 0 f _ rfl 8 rfl (ix2 i e) ⟨i.val / 8, by omega⟩ rfl
    (ix2 ⟨i.val % 8, by omega⟩ e) rfl fun b hb => ?_
  fin_cases b
  · exact absurd rfl hb
  · rfl

/-- One particle's prediction in one channel as the kernel forms it: `X j`, `Y` the two halves of the first layer before its
    tanh, `wf j`, `ws j` the weights of neighbour `j` as fluid and as solid. -/
def kval (A1 : Fin 18 → Fin 40 → EReal) (c1 : Fin 18 → EReal) (A2 : Fin 16 → Fin 18 → EReal) (c2 : Fin 16 → EReal) (A3 : Fin 16 → EReal)
    (X : Fin 2048 → Fin 40 → EReal) (Y : Fin 40 → EReal) (wf ws : Fin 2048 → EReal) (b b' : EReal) : EReal :=
  (∑ q : Fin 16, A3 q * ∑ j : Fin 2048, u2 A2 c2 (u1 A1 c1 (u0 (X j) Y)) q * (if q.val < 6 then wf j else if q.val < 12 then ws j else 0))
    + (∑ j : Fin 2048, wf j) * b + (∑ j : Fin 2048, ws j) * b'

/-- What a grid point writes at particle `i`, channel `e`. -/
theorem body_at (x0 : Vec Ideal S256x2048 .i8) (x1 : Vec Ideal S7x2048 .f32) (x2 : Vec Ideal S1x6x256 .f32) (x3 x4 : Vec Ideal S40x6 .f32)
    (x5 : Vec Ideal S40x1 .f32) (x9 x10 : Vec Ideal S1x3 .f32)
    (w1 : Vec Ideal S144x321 .bf16) (w2 : Vec Ideal S128x145 .bf16) (w3 : Vec Ideal S24x128 .f32)
    (A1 : Fin 18 → Fin 40 → EReal) (c1 : Fin 18 → EReal) (A2 : Fin 16 → Fin 18 → EReal) (c2 : Fin 16 → EReal) (A3 : Fin 3 → Fin 16 → EReal)
    (hw1 : ∀ (a b : Fin 8) (p : Fin 18) (k : Fin 40) (h : 18 * a.val + p.val < 144) (h' : 40 * b.val + k.val < 321),
      w1 (ix2 ⟨18 * a.val + p.val, h⟩ ⟨40 * b.val + k.val, h'⟩) = if a = b then A1 p k else 0)
    (hc1 : ∀ (a : Fin 8) (p : Fin 18) (h : 18 * a.val + p.val < 144), w1 (ix2 ⟨18 * a.val + p.val, h⟩ 320) = c1 p)
    (hw2 : ∀ (a b : Fin 8) (q : Fin 16) (p : Fin 18) (h : 16 * a.val + q.val < 128) (h' : 18 * b.val + p.val < 145),
      w2 (ix2 ⟨16 * a.val + q.val, h⟩ ⟨18 * b.val + p.val, h'⟩) = if a = b then A2 q p else 0)
    (hc2 : ∀ (a : Fin 8) (q : Fin 16) (h : 16 * a.val + q.val < 128), w2 (ix2 ⟨16 * a.val + q.val, h⟩ 144) = c2 q)
    (hw3 : ∀ (a b : Fin 8) (c : Fin 3) (q : Fin 16) (h : 3 * a.val + c.val < 24) (h' : 16 * b.val + q.val < 128),
      w3 (ix2 ⟨3 * a.val + c.val, h⟩ ⟨16 * b.val + q.val, h'⟩) = if a = b then A3 c q else 0)
    (i : Fin 256) (e : Fin 3) :
    k0_pay1 (concatenate S256x3 0 (List.ofFn fun n : Fin 32 => (⟨S8x3, grp (k0_pay4 x1 x3) (k0_pay5 x4 x2 x5) (k0_pay7 x1 x0) (k0_pay8 x1 x0)
        k0_pay9 k0_pay10 w1 w2 w3 n⟩ : (s : Shape) × (s.Idx → Ideal .f32))) (stack _))
      (k0_pay132 (k0_pay7 x1 x0)) (k0_pay133 (k0_pay8 x1 x0)) x9 x10 (ix3 0 i e)
      = kval A1 c1 A2 c2 (A3 e) (fun j k => ∑ d : Fin 6, x3 (ix2 k d) * x1 (ix2 ⟨d.val, by omega⟩ j))
          (fun k => (∑ d : Fin 6, x4 (ix2 k d) * x2 (ix3 0 d i)) + x5 (ix2 k 0))
          (fun j => mval (x0 (ix2 i j)) * (1 - x1 (ix2 6 j))) (fun j => mval (x0 (ix2 i j)) * x1 (ix2 6 j)) (x9 (ix2 0 e)) (x10 (ix2 0 e)) := by
  have hi : ∀ h, (⟨8 * (i.val / 8) + i.val % 8, h⟩ : Fin 256) = i := fun h => Fin.ext (Nat.div_add_mod _ _)
  refine (pay1_at _ _ _ x9 x10 i e).trans ?_
  refine Ideal.add_congr (Ideal.add_congr ?_ ?_) ?_
  · refine (groups_at _ i e).trans ((grp_at _ _ _ _ _ _ pay9_at pay10_at w1 w2 w3 A1 c1 A2 c2 A3 hw1 hc1 hw2 hc2 hw3 _ _ e).trans ?_)
    simp only [hi, pay4_at, pay5_at, pay7_at, pay8_at]
  · simp only [pay7_at]
  · simp only [pay8_at]

end Cert.Proof.Group

end
-- ==== Proof.Blocks.lean ====
/- A block-diagonal matrix as the host builds it: eight copies of one block, each padded with zeros to the full width at its
   own column offset, laid one below the other. Read at an index it is the block where the block row and the block column
   agree, and zero elsewhere. -/
module

public import Idealize.ShloMosaic.Lib.Pipeline.ValueKit
public import Idealize.ShloMosaic.Lib.Pointwise
public import Idealize.ShloMosaic.Lib.KernelVsHost

@[expose] public section

set_option maxRecDepth 16384

noncomputable section

namespace Cert.Proof.Blocks

open Idealize.ShloMosaic Idealize.SL.Sem

variable {α : Type}

/-- The block at column offset `C * n` of eight lies inside the full width. -/
theorem padsAt {R C U : Nat} (hU : U = 8 * C) (n : Fin 8) :
    (⟨2, ![R, C]⟩ : Shape).Pads ![0, C * n.val] ![0, C * (7 - n.val)] ![0, 0] ⟨2, ![R, U]⟩ := by
  refine ⟨rfl, fun a => ?_⟩
  fin_cases a
  · show R = 0 + R + 0 * (R - 1) + 0
    omega
  · show U = C * n.val + C + 0 * (C - 1) + C * (7 - n.val)
    have h : 8 * C = C * n.val + C * 1 + C * (7 - n.val) := by
      rw [← Nat.mul_add, ← Nat.mul_add, Nat.mul_comm 8 C]
      congr 1
      omega
    omega

/-- The block-diagonal matrix read at an index. -/
theorem blockDiag_at {R C T U : Nat} (hT : T = 8 * R) (hU : U = 8 * C) (x : (⟨2, ![R, C]⟩ : Shape).Idx → α) {u : Shape} (v : u.Idx → α)
    (hu : 0 < u.numel) (H : Shape.Concatenates ((List.ofFn fun n : Fin 8 => (⟨(⟨2, ![R, U]⟩ : Shape),
      pad ⟨2, ![R, U]⟩ ![0, C * n.val] ![0, C * (7 - n.val)] ![0, 0] x v (padsAt hU n) hu⟩ : (s : Shape) × (s.Idx → α))).map (·.1)) ⟨2, ![T, U]⟩ 0)
    (a b : Fin 8) (p : Fin R) (k : Fin C) (ha : R * a.val + p.val < T) (hb : C * b.val + k.val < U) :
    concatenate ⟨2, ![T, U]⟩ 0 (List.ofFn fun n : Fin 8 => (⟨(⟨2, ![R, U]⟩ : Shape),
      pad ⟨2, ![R, U]⟩ ![0, C * n.val] ![0, C * (7 - n.val)] ![0, 0] x v (padsAt hU n) hu⟩ : (s : Shape) × (s.Idx → α))) H
      (ix2 ⟨R * a.val + p.val, ha⟩ ⟨C * b.val + k.val, hb⟩)
      = if a = b then x (ix2 p k) else v (Shape.Idx.first hu) := by
  have hp := p.isLt
  have hk := k.isLt
  rw [concatenate_ofFn_apply (s₁ := ⟨2, ![R, U]⟩) (t := ⟨2, ![T, U]⟩) 0
    (fun n : Fin 8 => pad ⟨2, ![R, U]⟩ ![0, C * n.val] ![0, C * (7 - n.val)] ![0, 0] x v (padsAt hU n) hu) H rfl R rfl
    (ix2 ⟨R * a.val + p.val, ha⟩ ⟨C * b.val + k.val, hb⟩) a ?_ (ix2 p ⟨C * b.val + k.val, hb⟩) ?_ ?_]
  · by_cases hab : a = b
    · subst hab
      rw [if_pos rfl]
      refine pad_apply_of_inside _ _ _ x v _ hu _ (ix2 p k) fun i => ?_
      fin_cases i
      · show p.val = 0 + p.val * (0 + 1)
        omega
      · show C * a.val + k.val = C * a.val + k.val * (0 + 1)
        omega
    · rw [if_neg hab]
      refine pad_apply_of_not_inside _ _ _ x v _ hu _ 1 ?_
      show ¬(C * a.val ≤ C * b.val + k.val ∧ (C * b.val + k.val - C * a.val) % (0 + 1) = 0
        ∧ (C * b.val + k.val - C * a.val) / (0 + 1) < C)
      rintro ⟨h1, -, h2⟩
      rw [Nat.zero_add, Nat.div_one] at h2
      rcases Nat.lt_trichotomy a.val b.val with h | h | h
      · have : C * (a.val + 1) ≤ C * b.val := Nat.mul_le_mul_left C h
        rw [Nat.mul_add] at this
        omega
      · exact hab (Fin.ext h)
      · have : C * (b.val + 1) ≤ C * a.val := Nat.mul_le_mul_left C h
        rw [Nat.mul_add] at this
        omega
  · show (R * a.val + p.val) / R = a.val
    rw [Nat.mul_add_div (by omega), Nat.div_eq_of_lt hp, Nat.add_zero]
  · show p.val = (R * a.val + p.val) % R
    rw [Nat.mul_add_mod, Nat.mod_eq_of_lt hp]
  · intro i hi
    fin_cases i
    · exact absurd rfl hi
    · rfl

end Cert.Proof.Blocks

end
-- ==== Proof.HostOps.lean ====
/- What the host hands the kernel: each staged operand as a term of the arguments. -/
module

public import proofs.«01_k».proof.Proof.Gen.KernelIdeal.Frame
public import proofs.«01_k».proof.Proof.Blocks
public import Idealize.ShloMosaic.Lib.StableHlo.RunRead

@[expose] public section

set_option maxRecDepth 16384

noncomputable section

namespace Cert.Proof.Host

open Idealize.ShloMosaic Idealize.ShloMosaic.TcCoe Idealize.SL.Sem
open Cert.KernelIdeal Cert.KernelIdeal.Gen

variable {F : FTy → Type} [FloatOps F]

/-- The scalar zero. -/
def z0 : FVec F S_ .f32 := constant S_ .f32 0x00000000#32

/-- The centre particles transposed and cut into four blocks of 256. -/
def oC (x : FVec F S1024x6 .f32) : FVec F S4x6x256 .f32 :=
  transpose S4x6x256 [1, 0, 2] (shapeCast S6x4x256 (transpose S6x1024 [1, 0] x transposes_S1024x6_S6x1024_1_0) shapeCasts_S6x1024_S6x4x256)
    transposes_S6x4x256_S4x6x256_1_0_2

/-- The neighbour part of the first layer's two matrices, one below the other. -/
def oWa (w : FVec F S9x18 .f32) (w' : FVec F S6x18 .f32) : FVec F S40x6 .f32 :=
  concatenate S40x6 0 [
    ⟨S18x6, transpose S18x6 [1, 0] (extractStridedSlice S6x18 ![0, 0] w slices_S9x18_S6x18_0_0) transposes_S6x18_S18x6_1_0⟩,
    ⟨S18x6, concatenate S18x6 1 [⟨S18x3, transpose S18x3 [1, 0] (extractStridedSlice S3x18 ![0, 0] w' slices_S6x18_S3x18_0_0) transposes_S3x18_S18x3_1_0⟩,
      ⟨S18x3, broadcastInDim S18x3 ![] bcast_S_S18x3 z0⟩] concatenates_S18x3_S18x3_S18x6_d1⟩,
    ⟨S4x6, broadcastInDim S4x6 ![] bcast_S_S4x6 z0⟩] concatenates_S18x6_S18x6_S4x6_S40x6_d0

/-- The centre part of the first layer's two matrices, one below the other. -/
def oWc (w : FVec F S9x18 .f32) (w' : FVec F S6x18 .f32) : FVec F S40x6 .f32 :=
  concatenate S40x6 0 [
    ⟨S18x6, concatenate S18x6 1 [
      ⟨S18x3, Host.negf (transpose S18x3 [1, 0] (extractStridedSlice S3x18 ![0, 0] w slices_S9x18_S3x18_0_0) transposes_S3x18_S18x3_1_0)⟩,
      ⟨S18x3, transpose S18x3 [1, 0] (extractStridedSlice S3x18 ![6, 0] w slices_S9x18_S3x18_6_0) transposes_S3x18_S18x3_1_0⟩] concatenates_S18x3_S18x3_S18x6_d1⟩,
    ⟨S18x6, concatenate S18x6 1 [
      ⟨S18x3, Host.negf (transpose S18x3 [1, 0] (extractStridedSlice S3x18 ![0, 0] w' slices_S6x18_S3x18_0_0) transposes_S3x18_S18x3_1_0)⟩,
      ⟨S18x3, transpose S18x3 [1, 0] (extractStridedSlice S3x18 ![3, 0] w' slices_S6x18_S3x18_3_0) transposes_S3x18_S18x3_1_0⟩] concatenates_S18x3_S18x3_S18x6_d1⟩,
    ⟨S4x6, broadcastInDim S4x6 ![] bcast_S_S4x6 z0⟩] concatenates_S18x6_S18x6_S4x6_S40x6_d0

/-- The first layer's biases as a column. -/
def oB0 (b b' : FVec F S18 .f32) : FVec F S40x1 .f32 :=
  shapeCast S40x1 (concatenate S40 0 [⟨S18, b⟩, ⟨S18, b'⟩, ⟨S4, broadcastInDim S4 ![] bcast_S_S4 z0⟩] concatenates_S18_S18_S4_S40_d0)
    shapeCasts_S40_S40x1

/-- One particle's second-layer matrix: the fluid block, the solid block, and unused columns. -/
def blk1 (w w' : FVec F S18x9 .f32) : FVec F S18x40 .f32 :=
  concatenate S18x40 1 [
    ⟨S18x36, concatenate S18x36 0 [
      ⟨S9x36, pad S9x36 ![0, 0] ![0, 18] ![0, 0] (transpose S9x18 [1, 0] w transposes_S18x9_S9x18_1_0) z0 pads_S9x18_S9x36_000_0180 h_S_⟩,
      ⟨S9x36, pad S9x36 ![0, 18] ![0, 0] ![0, 0] (transpose S9x18 [1, 0] w' transposes_S18x9_S9x18_1_0) z0 pads_S9x18_S9x36_000_1800 h_S_⟩]
      concatenates_S9x36_S9x36_S18x36_d0⟩,
    ⟨S18x4, broadcastInDim S18x4 ![] bcast_S_S18x4 z0⟩] concatenates_S18x36_S18x4_S18x40_d1

/-- Eight copies of a particle's second-layer matrix on the diagonal. -/
def diag1 (x : FVec F S18x40 .f32) : FVec F S144x320 .f32 :=
  concatenate S144x320 0 (List.ofFn fun n : Fin 8 => (⟨(⟨2, ![18, 320]⟩ : Shape),
    pad ⟨2, ![18, 320]⟩ ![0, 40 * n.val] ![0, 40 * (7 - n.val)] ![0, 0] x z0 (Blocks.padsAt (R := 18) (C := 40) (U := 320) rfl n) h_S_⟩ :
      (s : Shape) × (s.Idx → F .f32)))
    concatenates_S18x320_S18x320_S18x320_S18x320_S18x320_S18x320_S18x320_S18x320_S144x320_d0

/-- The second layer's biases over tanh 1, eight times, as a column. -/
def bias1 (b b' : FVec F S9 .f32) : FVec F S144x1 .f32 :=
  Host.divf (shapeCast S144x1 (shapeCast S144 (broadcastInDim S8x18 ![0, 1] bcast_S1x18_S8x18_0_1
      (shapeCast S1x18 (concatenate S18 0 [⟨S9, b⟩, ⟨S9, b'⟩] concatenates_S9_S9_S18_d0) shapeCasts_S18_S1x18)) shapeCasts_S8x18_S144)
      shapeCasts_S144_S144x1)
    (broadcastInDim S144x1 ![] bcast_S_S144x1 (Host.tanh (constant S_ .f32 0x3F800000#32)))

/-- The second layer's matrix with its biases as the last column. -/
def oW1 (w w' : FVec F S18x9 .f32) (b b' : FVec F S9 .f32) : FVec F S144x321 .bf16 :=
  truncf .bf16 (concatenate S144x321 1 [⟨S144x320, diag1 (blk1 w w')⟩, ⟨S144x1, bias1 b b'⟩] concatenates_S144x320_S144x1_S144x321_d1) bitsLt_bf16_f32

/-- One particle's third-layer matrix: the fluid block, the solid block, and unused rows. -/
def blk2 (w w' : FVec F S9x6 .f32) : FVec F S16x18 .f32 :=
  concatenate S16x18 0 [
    ⟨S12x18, concatenate S12x18 0 [
      ⟨S6x18, pad S6x18 ![0, 0] ![0, 9] ![0, 0] (transpose S6x9 [1, 0] w transposes_S9x6_S6x9_1_0) z0 pads_S6x9_S6x18_000_090 h_S_⟩,
      ⟨S6x18, pad S6x18 ![0, 9] ![0, 0] ![0, 0] (transpose S6x9 [1, 0] w' transposes_S9x6_S6x9_1_0) z0 pads_S6x9_S6x18_000_900 h_S_⟩]
      concatenates_S6x18_S6x18_S12x18_d0⟩,
    ⟨S4x18, broadcastInDim S4x18 ![] bcast_S_S4x18 z0⟩] concatenates_S12x18_S4x18_S16x18_d0

/-- Eight copies of a particle's third-layer matrix on the diagonal. -/
def diag2 (x : FVec F S16x18 .f32) : FVec F S128x144 .f32 :=
  concatenate S128x144 0 (List.ofFn fun n : Fin 8 => (⟨(⟨2, ![16, 144]⟩ : Shape),
    pad ⟨2, ![16, 144]⟩ ![0, 18 * n.val] ![0, 18 * (7 - n.val)] ![0, 0] x z0 (Blocks.padsAt (R := 16) (C := 18) (U := 144) rfl n) h_S_⟩ :
      (s : Shape) × (s.Idx → F .f32)))
    concatenates_S16x144_S16x144_S16x144_S16x144_S16x144_S16x144_S16x144_S16x144_S128x144_d0

/-- The third layer's biases, eight times, as a column. -/
def bias2 (b b' : FVec F S6 .f32) : FVec F S128x1 .f32 :=
  shapeCast S128x1 (shapeCast S128 (broadcastInDim S8x16 ![0, 1] bcast_S1x16_S8x16_0_1
    (shapeCast S1x16 (concatenate S16 0 [⟨S6, b⟩, ⟨S6, b'⟩, ⟨S4, broadcastInDim S4 ![] bcast_S_S4 z0⟩] concatenates_S6_S6_S4_S16_d0)
      shapeCasts_S16_S1x16)) shapeCasts_S8x16_S128) shapeCasts_S128_S128x1

/-- The third layer's matrix with its biases as the last column. -/
def oW2 (w w' : FVec F S9x6 .f32) (b b' : FVec F S6 .f32) : FVec F S128x145 .bf16 :=
  truncf .bf16 (concatenate S128x145 1 [⟨S128x144, diag2 (blk2 w w')⟩, ⟨S128x1, bias2 b b'⟩] concatenates_S128x144_S128x1_S128x145_d1) bitsLt_bf16_f32

/-- One particle's last-layer matrix. -/
def blk3 (w w' : FVec F S6x3 .f32) : FVec F S3x16 .f32 :=
  concatenate S3x16 1 [⟨S3x6, transpose S3x6 [1, 0] w transposes_S6x3_S3x6_1_0⟩, ⟨S3x6, transpose S3x6 [1, 0] w' transposes_S6x3_S3x6_1_0⟩,
    ⟨S3x4, broadcastInDim S3x4 ![] bcast_S_S3x4 z0⟩] concatenates_S3x6_S3x6_S3x4_S3x16_d1

/-- Eight copies of a particle's last-layer matrix on the diagonal. -/
def diag3 (x : FVec F S3x16 .f32) : FVec F S24x128 .f32 :=
  concatenate S24x128 0 (List.ofFn fun n : Fin 8 => (⟨(⟨2, ![3, 128]⟩ : Shape),
    pad ⟨2, ![3, 128]⟩ ![0, 16 * n.val] ![0, 16 * (7 - n.val)] ![0, 0] x z0 (Blocks.padsAt (R := 3) (C := 16) (U := 128) rfl n) h_S_⟩ :
      (s : Shape) × (s.Idx → F .f32)))
    concatenates_S3x128_S3x128_S3x128_S3x128_S3x128_S3x128_S3x128_S3x128_S24x128_d0

/-- The last layer's matrix, for eight particles. -/
def oW3 (w w' : FVec F S6x3 .f32) : FVec F S24x128 .f32 := diag3 (blk3 w w')

/-! ## The operands as the kernel finds them -/

theorem after_app (o₁ o₂ : List (HloOp τ sig (Elt F))) (W : Valuation τ sig (Elt F)) :
    StableHlo.after (o₁ ++ o₂) W = StableHlo.after o₂ (StableHlo.after o₁ W) := by
  induction o₁ generalizing W with
  | nil => rfl
  | cons o os ih => exact ih _

section Segments

variable (U : Valuation τ sig (Elt F))

theorem seg1_v32 : StableHlo.after hostOps0_1 U (Proc.devRef .tc main_v32) = concatenate S18x36 0 [
      ⟨S9x36, pad S9x36 ![0, 0] ![0, 18] ![0, 0] (U (Proc.devRef .tc main_v30)) z0 pads_S9x18_S9x36_000_0180 h_S_⟩,
      ⟨S9x36, pad S9x36 ![0, 18] ![0, 0] ![0, 0] (U (Proc.devRef .tc main_v31)) z0 pads_S9x18_S9x36_000_1800 h_S_⟩]
      concatenates_S9x36_S9x36_S18x36_d0 := by
  after_reads_simp
  iterate 6 (try dsimp only [Matrix.cons_val]; try after_reads_simp)
  try rfl

theorem seg2_v34 : StableHlo.after hostOps0_2 U (Proc.devRef .tc main_v34) = concatenate S18x40 1 [⟨S18x36, (U (Proc.devRef .tc main_v32))⟩,
    ⟨S18x4, broadcastInDim S18x4 ![] bcast_S_S18x4 z0⟩] concatenates_S18x36_S18x4_S18x40_d1 := by
  after_reads_simp
  iterate 6 (try dsimp only [Matrix.cons_val]; try after_reads_simp)
  try rfl

theorem seg3_v35 : StableHlo.after hostOps0_3 U (Proc.devRef .tc main_v35) = diag1 (U (Proc.devRef .tc main_v34)) := by
  after_reads_simp
  iterate 6 (try dsimp only [Matrix.cons_val]; try after_reads_simp)
  try rfl

theorem seg4_v45 : StableHlo.after hostOps0_4 U (Proc.devRef .tc main_v45) = concatenate S144x321 1 [⟨S144x320, (U (Proc.devRef .tc main_v35))⟩, ⟨S144x1, bias1 (U (Proc.devRef .tc main_arg6)) (U (Proc.devRef .tc main_arg14))⟩] concatenates_S144x320_S144x1_S144x321_d1 := by
  after_reads_simp
  iterate 6 (try dsimp only [Matrix.cons_val]; try after_reads_simp)
  try rfl

theorem seg4_v46 : StableHlo.after hostOps0_4 U (Proc.devRef .tc main_v46) = transpose S6x9 [1, 0] (U (Proc.devRef .tc main_arg7)) transposes_S9x6_S6x9_1_0 := by
  after_reads_simp
  iterate 6 (try dsimp only [Matrix.cons_val]; try after_reads_simp)
  try rfl

theorem seg4_v47 : StableHlo.after hostOps0_4 U (Proc.devRef .tc main_v47) = transpose S6x9 [1, 0] (U (Proc.devRef .tc main_arg15)) transposes_S9x6_S6x9_1_0 := by
  after_reads_simp
  iterate 6 (try dsimp only [Matrix.cons_val]; try after_reads_simp)
  try rfl

theorem seg5_v48 : StableHlo.after hostOps0_5 U (Proc.devRef .tc main_v48) = concatenate S12x18 0 [
      ⟨S6x18, pad S6x18 ![0, 0] ![0, 9] ![0, 0] (U (Proc.devRef .tc main_v46)) z0 pads_S6x9_S6x18_000_090 h_S_⟩,
      ⟨S6x18, pad S6x18 ![0, 9] ![0, 0] ![0, 0] (U (Proc.devRef .tc main_v47)) z0 pads_S6x9_S6x18_000_900 h_S_⟩]
      concatenates_S6x18_S6x18_S12x18_d0 := by
  after_reads_simp
  iterate 6 (try dsimp only [Matrix.cons_val]; try after_reads_simp)
  try rfl

theorem seg6_v50 : StableHlo.after hostOps0_6 U (Proc.devRef .tc main_v50) = concatenate S16x18 0 [⟨S12x18, (U (Proc.devRef .tc main_v48))⟩,
    ⟨S4x18, broadcastInDim S4x18 ![] bcast_S_S4x18 z0⟩] concatenates_S12x18_S4x18_S16x18_d0 := by
  after_reads_simp
  iterate 6 (try dsimp only [Matrix.cons_val]; try after_reads_simp)
  try rfl

theorem seg7_v51 : StableHlo.after hostOps0_7 U (Proc.devRef .tc main_v51) = diag2 (U (Proc.devRef .tc main_v50)) := by
  after_reads_simp
  iterate 6 (try dsimp only [Matrix.cons_val]; try after_reads_simp)
  try rfl

theorem seg8_v58 : StableHlo.after hostOps0_8 U (Proc.devRef .tc main_v58) = concatenate S128x145 1 [⟨S128x144, (U (Proc.devRef .tc main_v51))⟩, ⟨S128x1, bias2 (U (Proc.devRef .tc main_arg8)) (U (Proc.devRef .tc main_arg16))⟩] concatenates_S128x144_S128x1_S128x145_d1 := by
  after_reads_simp
  iterate 6 (try dsimp only [Matrix.cons_val]; try after_reads_simp)
  try rfl

theorem seg8_v62 : StableHlo.after hostOps0_8 U (Proc.devRef .tc main_v62) = blk3 (U (Proc.devRef .tc main_arg9)) (U (Proc.devRef .tc main_arg17)) := by
  after_reads_simp
  iterate 6 (try dsimp only [Matrix.cons_val]; try after_reads_simp)
  try rfl

theorem seg9_v63 : StableHlo.after hostOps0_9 U (Proc.devRef .tc main_v63) = diag3 (U (Proc.devRef .tc main_v62)) := by
  after_reads_simp
  iterate 6 (try dsimp only [Matrix.cons_val]; try after_reads_simp)
  try rfl

theorem seg10_v64 : StableHlo.after hostOps0_10 U (Proc.devRef .tc main_v64) = truncf .bf16 (U (Proc.devRef .tc main_v45)) bitsLt_bf16_f32 := by
  after_reads_simp
  iterate 6 (try dsimp only [Matrix.cons_val]; try after_reads_simp)
  try rfl

theorem seg10_v65 : StableHlo.after hostOps0_10 U (Proc.devRef .tc main_v65) = truncf .bf16 (U (Proc.devRef .tc main_v58)) bitsLt_bf16_f32 := by
  after_reads_simp
  iterate 6 (try dsimp only [Matrix.cons_val]; try after_reads_simp)
  try rfl

theorem kept9_v45 : StableHlo.after hostOps0_9 U (Proc.devRef .tc main_v45) = U (Proc.devRef .tc main_v45) := by
  after_reads_simp

theorem kept8_v45 : StableHlo.after hostOps0_8 U (Proc.devRef .tc main_v45) = U (Proc.devRef .tc main_v45) := by
  after_reads_simp

theorem kept7_v45 : StableHlo.after hostOps0_7 U (Proc.devRef .tc main_v45) = U (Proc.devRef .tc main_v45) := by
  after_reads_simp

theorem kept6_v45 : StableHlo.after hostOps0_6 U (Proc.devRef .tc main_v45) = U (Proc.devRef .tc main_v45) := by
  after_reads_simp

theorem kept5_v45 : StableHlo.after hostOps0_5 U (Proc.devRef .tc main_v45) = U (Proc.devRef .tc main_v45) := by
  after_reads_simp

theorem kept9_v58 : StableHlo.after hostOps0_9 U (Proc.devRef .tc main_v58) = U (Proc.devRef .tc main_v58) := by
  after_reads_simp

end Segments

variable (m : (ℓ : Loc nD τ sig) → Buf (Elt F) ℓ) (c : Dev nD)

theorem V0_eq : V0 m c = StableHlo.after hostOps0_10 (StableHlo.after hostOps0_9 (StableHlo.after hostOps0_8 (StableHlo.after hostOps0_7
    (StableHlo.after hostOps0_6 (StableHlo.after hostOps0_5 (StableHlo.after hostOps0_4 (StableHlo.after hostOps0_3
    (StableHlo.after hostOps0_2 (StableHlo.after hostOps0_1 (StableHlo.after hostOps0 (fun b => m (c, b)))))))))))) := by
  show StableHlo.after (List.flatten [_, _, _, _, _, _, _, _, _, _, _]) _ = _
  simp only [List.flatten_cons, List.flatten_nil, List.append_nil, after_app]

theorem V_v0 : V m c main_v0 = extui 8 (m (c.tc.loc main_arg0)) natLt_1_8 := by
  show V0 m c (Proc.devRef .tc main_v0) = _
  rw [V0_eq]
  after_reads_simp
  iterate 3 (try dsimp only [Matrix.cons_val]; try after_reads_simp)
  try rfl

theorem V_v1 : V m c main_v1 = transpose S7x2048 [1, 0] (m (c.tc.loc main_arg2)) transposes_S2048x7_S7x2048_1_0 := by
  show V0 m c (Proc.devRef .tc main_v1) = _
  rw [V0_eq]
  after_reads_simp
  iterate 3 (try dsimp only [Matrix.cons_val]; try after_reads_simp)
  try rfl

theorem V_v4 : V m c main_v4 = oC (m (c.tc.loc main_arg1)) := by
  show V0 m c (Proc.devRef .tc main_v4) = _
  rw [V0_eq]
  after_reads_simp
  iterate 3 (try dsimp only [Matrix.cons_val]; try after_reads_simp)
  try rfl

theorem V_v12 : V m c main_v12 = oWa (m (c.tc.loc main_arg3)) (m (c.tc.loc main_arg11)) := by
  show V0 m c (Proc.devRef .tc main_v12) = _
  rw [V0_eq]
  after_reads_simp
  iterate 3 (try dsimp only [Matrix.cons_val]; try after_reads_simp)
  try rfl

theorem V_v26 : V m c main_v26 = oWc (m (c.tc.loc main_arg3)) (m (c.tc.loc main_arg11)) := by
  show V0 m c (Proc.devRef .tc main_v26) = _
  rw [V0_eq]
  after_reads_simp
  iterate 3 (try dsimp only [Matrix.cons_val]; try after_reads_simp)
  try rfl

theorem V_v29 : V m c main_v29 = oB0 (m (c.tc.loc main_arg4)) (m (c.tc.loc main_arg12)) := by
  show V0 m c (Proc.devRef .tc main_v29) = _
  rw [V0_eq]
  after_reads_simp
  iterate 3 (try dsimp only [Matrix.cons_val]; try after_reads_simp)
  try rfl

theorem V_v66 : V m c main_v66 = shapeCast S1x3 (m (c.tc.loc main_arg10)) shapeCasts_S3_S1x3 := by
  show V0 m c (Proc.devRef .tc main_v66) = _
  rw [V0_eq]
  after_reads_simp
  iterate 3 (try dsimp only [Matrix.cons_val]; try after_reads_simp)
  try rfl

theorem V_v67 : V m c main_v67 = shapeCast S1x3 (m (c.tc.loc main_arg18)) shapeCasts_S3_S1x3 := by
  show V0 m c (Proc.devRef .tc main_v67) = _
  rw [V0_eq]
  after_reads_simp
  iterate 3 (try dsimp only [Matrix.cons_val]; try after_reads_simp)
  try rfl

theorem V_v64 : V m c main_v64 = oW1 (m (c.tc.loc main_arg5)) (m (c.tc.loc main_arg13)) (m (c.tc.loc main_arg6)) (m (c.tc.loc main_arg14)) := by
  show V0 m c (Proc.devRef .tc main_v64) = _
  rw [V0_eq]
  rw [seg10_v64, kept9_v45, kept8_v45, kept7_v45, kept6_v45, kept5_v45, seg4_v45, seg3_v35, seg2_v34, seg1_v32]
  after_reads_simp
  try rfl

theorem V_v65 : V m c main_v65 = oW2 (m (c.tc.loc main_arg7)) (m (c.tc.loc main_arg15)) (m (c.tc.loc main_arg8)) (m (c.tc.loc main_arg16)) := by
  show V0 m c (Proc.devRef .tc main_v65) = _
  rw [V0_eq]
  rw [seg10_v65, kept9_v58, seg8_v58, seg7_v51, seg6_v50, seg5_v48, seg4_v46, seg4_v47]
  after_reads_simp
  try rfl

theorem V_v63 : V m c main_v63 = oW3 (m (c.tc.loc main_arg9)) (m (c.tc.loc main_arg17)) := by
  show V0 m c (Proc.devRef .tc main_v63) = _
  rw [V0_eq]
  have h (U : Valuation τ sig (Elt F)) : StableHlo.after hostOps0_10 U (Proc.devRef .tc main_v63) = U (Proc.devRef .tc main_v63) := by
    after_reads_simp
  rw [h, seg9_v63, seg8_v62]
  after_reads_simp
  try rfl

end Cert.Proof.Host

end
-- ==== Proof.HostAt.lean ====
/- The staged operands read at an index. -/
module

public import proofs.«01_k».proof.Proof.HostOps
public import Idealize.ShloMosaic.Lib.Pointwise

@[expose] public section

set_option maxRecDepth 16384

noncomputable section

namespace Cert.Proof.Host

open Idealize.ShloMosaic Idealize.ShloMosaic.TcCoe Idealize.SL.Sem
open Cert.KernelIdeal Cert.KernelIdeal.Gen

theorem z0_at (x : S_.Idx) : z0 (F := Ideal) x = 0 := by
  pointwise [z0]

/-- A sum whose terms outside a window of positions are zero. -/
theorem sum_window {N C : Nat} (o : Nat) (h : o + C ≤ N) (f : Fin N → EReal)
    (hz : ∀ k : Fin N, ¬(o ≤ k.val ∧ k.val < o + C) → f k = 0) : ∑ k : Fin N, f k = ∑ k : Fin C, f ⟨o + k.val, by omega⟩ := by
  refine (Finset.sum_of_injOn (fun k : Fin C => (⟨o + k.val, by omega⟩ : Fin N)) ?_ (fun _ _ => Finset.mem_univ _) ?_ fun _ _ => rfl).symm
  · intro a _ b _ hab
    have := congrArg Fin.val hab
    exact Fin.ext (by simpa using this)
  · intro k _ hk
    refine hz k fun hc => hk ⟨⟨k.val - o, by omega⟩, Finset.mem_coe.2 (Finset.mem_univ _), Fin.ext ?_⟩
    show o + (k.val - o) = k.val
    omega

/-! ## The three block-diagonal operands -/

theorem oW1_at (w w' : FVec Ideal S18x9 .f32) (b b' : FVec Ideal S9 .f32) (a a' : Fin 8) (p : Fin 18) (k : Fin 40)
    (h : 18 * a.val + p.val < 144) (h' : 40 * a'.val + k.val < 321) :
    oW1 w w' b b' (ix2 ⟨18 * a.val + p.val, h⟩ ⟨40 * a'.val + k.val, h'⟩) = if a = a' then blk1 w w' (ix2 p k) else 0 := by
  have hlt : 40 * a'.val + k.val < 320 := by omega
  pointwise [oW1]
  rw [dif_pos hlt]
  refine (Blocks.blockDiag_at (R := 18) (C := 40) (T := 144) (U := 320) rfl rfl (blk1 w w') z0 h_S_ _ a a' p k h hlt).trans ?_
  rw [z0_at]

/-- The second layer's two bias vectors, one after the other. -/
def cat1 (b b' : FVec Ideal S9 .f32) : FVec Ideal S18 .f32 := concatenate S18 0 [⟨S9, b⟩, ⟨S9, b'⟩] concatenates_S9_S9_S18_d0

theorem oW1_last (w w' : FVec Ideal S18x9 .f32) (b b' : FVec Ideal S9 .f32) (a : Fin 8) (p : Fin 18) (h : 18 * a.val + p.val < 144) :
    oW1 w w' b b' (ix2 ⟨18 * a.val + p.val, h⟩ 320) = Ideal.div (cat1 b b' (ix1 p)) (Ideal.tanh 1) := by
  pointwise [oW1, bias1, cat1]

theorem oW2_at (w w' : FVec Ideal S9x6 .f32) (b b' : FVec Ideal S6 .f32) (a a' : Fin 8) (q : Fin 16) (p : Fin 18)
    (h : 16 * a.val + q.val < 128) (h' : 18 * a'.val + p.val < 145) :
    oW2 w w' b b' (ix2 ⟨16 * a.val + q.val, h⟩ ⟨18 * a'.val + p.val, h'⟩) = if a = a' then blk2 w w' (ix2 q p) else 0 := by
  have hlt : 18 * a'.val + p.val < 144 := by omega
  pointwise [oW2]
  rw [dif_pos hlt]
  refine (Blocks.blockDiag_at (R := 16) (C := 18) (T := 128) (U := 144) rfl rfl (blk2 w w') z0 h_S_ _ a a' q p h hlt).trans ?_
  rw [z0_at]

/-- The third layer's two bias vectors and the unused rows, one after the other. -/
def cat2 (b b' : FVec Ideal S6 .f32) : FVec Ideal S16 .f32 :=
  concatenate S16 0 [⟨S6, b⟩, ⟨S6, b'⟩, ⟨S4, broadcastInDim S4 ![] bcast_S_S4 z0⟩] concatenates_S6_S6_S4_S16_d0

theorem oW2_last (w w' : FVec Ideal S9x6 .f32) (b b' : FVec Ideal S6 .f32) (a : Fin 8) (q : Fin 16) (h : 16 * a.val + q.val < 128) :
    oW2 w w' b b' (ix2 ⟨16 * a.val + q.val, h⟩ 144) = cat2 b b' (ix1 q) := by
  pointwise [oW2, bias2, cat2]

theorem oW3_at (w w' : FVec Ideal S6x3 .f32) (a a' : Fin 8) (e : Fin 3) (q : Fin 16)
    (h : 3 * a.val + e.val < 24) (h' : 16 * a'.val + q.val < 128) :
    oW3 w w' (ix2 ⟨3 * a.val + e.val, h⟩ ⟨16 * a'.val + q.val, h'⟩) = if a = a' then blk3 w w' (ix2 e q) else 0 := by
  unfold oW3 diag3
  refine (Blocks.blockDiag_at (R := 3) (C := 16) (T := 24) (U := 128) rfl rfl (blk3 w w') z0 h_S_ _ a a' e q h h').trans ?_
  rw [z0_at]

/-! ## Rows of the blocks: fluid and solid parts -/

theorem cat1_f (b b' : FVec Ideal S9 .f32) (p : Fin 9) : cat1 b b' (ix1 ⟨p.val, by omega⟩) = b (ix1 p) := by
  pointwise [cat1]

theorem cat1_s (b b' : FVec Ideal S9 .f32) (p : Fin 9) : cat1 b b' (ix1 ⟨9 + p.val, by omega⟩) = b' (ix1 p) := by
  pointwise [cat1]

theorem cat2_f (b b' : FVec Ideal S6 .f32) (q : Fin 6) : cat2 b b' (ix1 ⟨q.val, by omega⟩) = b (ix1 q) := by
  pointwise [cat2]

theorem cat2_s (b b' : FVec Ideal S6 .f32) (q : Fin 6) : cat2 b b' (ix1 ⟨6 + q.val, by omega⟩) = b' (ix1 q) := by
  pointwise [cat2]

theorem oWa_f (w : FVec Ideal S9x18 .f32) (w' : FVec Ideal S6x18 .f32) (k : Fin 18) (d : Fin 6) :
    oWa w w' (ix2 ⟨k.val, by omega⟩ d) = w (ix2 ⟨d.val, by omega⟩ k) := by
  pointwise [oWa]

theorem oWa_s (w : FVec Ideal S9x18 .f32) (w' : FVec Ideal S6x18 .f32) (k : Fin 18) (x : Fin 6 → EReal) :
    ∑ d : Fin 6, oWa w w' (ix2 ⟨18 + k.val, by omega⟩ d) * x d = ∑ d : Fin 3, w' (ix2 ⟨d.val, by omega⟩ k) * x ⟨d.val, by omega⟩ := by
  pointwise [oWa, z0]
  simp only [zero_mul, Finset.sum_const_zero, add_zero]

theorem oWc_f (w : FVec Ideal S9x18 .f32) (w' : FVec Ideal S6x18 .f32) (k : Fin 18) (x : Fin 6 → EReal) :
    ∑ d : Fin 6, oWc w w' (ix2 ⟨k.val, by omega⟩ d) * x d
      = ∑ d : Fin 3, -(w (ix2 ⟨d.val, by omega⟩ k) : EReal) * x ⟨d.val, by omega⟩ + ∑ d : Fin 3, w (ix2 ⟨6 + d.val, by omega⟩ k) * x ⟨3 + d.val, by omega⟩ := by
  pointwise [oWc, z0]

theorem oWc_s (w : FVec Ideal S9x18 .f32) (w' : FVec Ideal S6x18 .f32) (k : Fin 18) (x : Fin 6 → EReal) :
    ∑ d : Fin 6, oWc w w' (ix2 ⟨18 + k.val, by omega⟩ d) * x d
      = ∑ d : Fin 3, -(w' (ix2 ⟨d.val, by omega⟩ k) : EReal) * x ⟨d.val, by omega⟩ + ∑ d : Fin 3, w' (ix2 ⟨3 + d.val, by omega⟩ k) * x ⟨3 + d.val, by omega⟩ := by
  pointwise [oWc, z0]

theorem oB0_f (b b' : FVec Ideal S18 .f32) (k : Fin 18) : oB0 b b' (ix2 ⟨k.val, by omega⟩ 0) = b (ix1 k) := by
  pointwise [oB0]

theorem oB0_s (b b' : FVec Ideal S18 .f32) (k : Fin 18) : oB0 b b' (ix2 ⟨18 + k.val, by omega⟩ 0) = b' (ix1 k) := by
  pointwise [oB0]

theorem blk1_f (w w' : FVec Ideal S18x9 .f32) (p : Fin 9) (x : Fin 40 → EReal) :
    ∑ k : Fin 40, blk1 w w' (ix2 ⟨p.val, by omega⟩ k) * x k = ∑ k : Fin 18, w (ix2 k p) * x ⟨k.val, by omega⟩ := by
  pointwise [blk1, z0, zero_mul, Finset.sum_const_zero, add_zero, zero_add]

theorem blk1_s (w w' : FVec Ideal S18x9 .f32) (p : Fin 9) (x : Fin 40 → EReal) :
    ∑ k : Fin 40, blk1 w w' (ix2 ⟨9 + p.val, by omega⟩ k) * x k = ∑ k : Fin 18, w' (ix2 k p) * x ⟨18 + k.val, by omega⟩ := by
  refine (sum_window 18 (by decide) _ fun k hk => ?_).trans (Finset.sum_congr rfl fun k _ => Ideal.mul_congr ?_ rfl)
  · refine (Ideal.mul_congr (?_ : _ = (0 : EReal)) rfl).trans (zero_mul _)
    pointwise [blk1, z0]
    by_cases h : k.val < 36
    · rw [dif_pos h, dif_neg (by omega)]
    · rw [dif_neg h]
  · pointwise [blk1]
    rw [dif_pos (by omega)]

theorem blk2_f (w w' : FVec Ideal S9x6 .f32) (p : Fin 6) (x : Fin 18 → EReal) :
    ∑ k : Fin 18, blk2 w w' (ix2 ⟨p.val, by omega⟩ k) * x k = ∑ k : Fin 9, w (ix2 k p) * x ⟨k.val, by omega⟩ := by
  have hp : p.val < 12 := by omega
  refine (sum_window 0 (by decide) _ fun k hk => ?_).trans (Finset.sum_congr rfl fun k _ => Ideal.mul_congr ?_
    (congrArg x (Fin.ext (Nat.zero_add _))))
  · refine (Ideal.mul_congr (?_ : _ = (0 : EReal)) rfl).trans (zero_mul _)
    pointwise [blk2, z0]
    rw [dif_pos hp, dif_neg (by omega)]
  · pointwise [blk2]
    rw [dif_pos hp]

theorem blk2_s (w w' : FVec Ideal S9x6 .f32) (p : Fin 6) (x : Fin 18 → EReal) :
    ∑ k : Fin 18, blk2 w w' (ix2 ⟨6 + p.val, by omega⟩ k) * x k = ∑ k : Fin 9, w' (ix2 k p) * x ⟨9 + k.val, by omega⟩ := by
  have hp : 6 + p.val < 12 := by omega
  refine (sum_window 9 (by decide) _ fun k hk => ?_).trans (Finset.sum_congr rfl fun k _ => Ideal.mul_congr ?_ rfl)
  · refine (Ideal.mul_congr (?_ : _ = (0 : EReal)) rfl).trans (zero_mul _)
    pointwise [blk2, z0]
    rw [dif_pos hp, dif_neg (by omega)]
  · pointwise [blk2]
    rw [dif_pos hp]

theorem blk3_sum (w w' : FVec Ideal S6x3 .f32) (e : Fin 3) (x : Fin 16 → EReal) :
    ∑ q : Fin 16, blk3 w w' (ix2 e q) * x q
      = ∑ q : Fin 6, w (ix2 q e) * x ⟨q.val, by omega⟩ + ∑ q : Fin 6, w' (ix2 q e) * x ⟨6 + q.val, by omega⟩ := by
  refine (Fin.sum_univ_add (a := 12) (b := 4) _).trans ?_
  refine (congrArg₂ (· + ·) (Fin.sum_univ_add (a := 6) (b := 6) _) (Finset.sum_eq_zero fun k _ => ?_)).trans ((add_zero _).trans
    (congrArg₂ (· + ·) (Finset.sum_congr rfl fun k _ => Ideal.mul_congr ?_ rfl) (Finset.sum_congr rfl fun k _ => Ideal.mul_congr ?_ rfl)))
  · refine (Ideal.mul_congr (?_ : blk3 w w' (ix2 e ⟨12 + k.val, by omega⟩) = (0 : EReal)) rfl).trans (zero_mul _)
    pointwise [blk3, z0]
    rw [dif_neg (by omega), dif_neg (by omega)]
  · show blk3 w w' (ix2 e ⟨k.val, by omega⟩) = w (ix2 k e)
    pointwise [blk3]
  · show blk3 w w' (ix2 e ⟨6 + k.val, by omega⟩) = w' (ix2 k e)
    pointwise [blk3]

/-! ## The rest -/

theorem oC_at (x : FVec Ideal S1024x6 .f32) (t : Fin 4) (d : Fin 6) (i : Fin 256) (h : t.val * 256 + i.val < 1024) :
    oC x (ix3 t d i) = x (ix2 ⟨t.val * 256 + i.val, h⟩ d) := by
  pointwise [oC]

end Cert.Proof.Host

end
-- ==== Proof.Windows.lean ====
/- The kernel's result as a function of the arguments, and the blocks of its windows. -/
module

public import proofs.«01_k».proof.Proof.Body
public import proofs.«01_k».proof.Proof.HostAt
public import Idealize.ShloMosaic.Lib.Pipeline.ValueKit

@[expose] public section

set_option maxRecDepth 16384

noncomputable section

namespace Cert.Proof.Final

open Idealize.ShloMosaic Idealize.ShloMosaic.TcCoe Idealize.SL.Sem
open Idealize.ShloMosaic.Pipeline (Dat)
open Cert.KernelIdeal Cert.KernelIdeal.Gen
open Cert.Proof.Group Cert.Proof.Host

/-- The kernel's result for particle `r`, channel `e`, over the arguments. -/
def kout (M : IVec S1024x2048 1) (C : FVec Ideal S1024x6 .f32) (D : FVec Ideal S2048x7 .f32)
    (fW0 : FVec Ideal S9x18 .f32) (fb0 : FVec Ideal S18 .f32) (fW1 : FVec Ideal S18x9 .f32) (fb1 : FVec Ideal S9 .f32)
    (fW2 : FVec Ideal S9x6 .f32) (fb2 : FVec Ideal S6 .f32) (fW3 : FVec Ideal S6x3 .f32) (fb3 : FVec Ideal S3 .f32)
    (sW0 : FVec Ideal S6x18 .f32) (sb0 : FVec Ideal S18 .f32) (sW1 : FVec Ideal S18x9 .f32) (sb1 : FVec Ideal S9 .f32)
    (sW2 : FVec Ideal S9x6 .f32) (sb2 : FVec Ideal S6 .f32) (sW3 : FVec Ideal S6x3 .f32) (sb3 : FVec Ideal S3 .f32)
    (r : Fin 1024) (e : Fin 3) : EReal :=
  kval (fun p k => blk1 fW1 sW1 (ix2 p k)) (fun p => Ideal.div (cat1 fb1 sb1 (ix1 p)) (Ideal.tanh 1))
    (fun q p => blk2 fW2 sW2 (ix2 q p)) (fun q => cat2 fb2 sb2 (ix1 q)) (fun q => blk3 fW3 sW3 (ix2 e q))
    (fun j k => ∑ d : Fin 6, oWa fW0 sW0 (ix2 k d) * D (ix2 j ⟨d.val, by omega⟩))
    (fun k => (∑ d : Fin 6, oWc fW0 sW0 (ix2 k d) * C (ix2 r d)) + oB0 fb0 sb0 (ix2 k 0))
    (fun j => mval ((M (ix2 r j)).setWidth 8) * (1 - D (ix2 j 6))) (fun j => mval ((M (ix2 r j)).setWidth 8) * D (ix2 j 6))
    (fb3 (ix1 e)) (sb3 (ix1 e))

variable (m : (ℓ : Loc nD τ sig) → Buf (Elt Ideal) ℓ) (c : Dev nD)

/-- The same, of a memory's arguments. -/
abbrev mout (r : Fin 1024) (e : Fin 3) : EReal :=
  kout (m (c.tc.loc main_arg0)) (m (c.tc.loc main_arg1)) (m (c.tc.loc main_arg2)) (m (c.tc.loc main_arg3)) (m (c.tc.loc main_arg4))
    (m (c.tc.loc main_arg5)) (m (c.tc.loc main_arg6)) (m (c.tc.loc main_arg7)) (m (c.tc.loc main_arg8)) (m (c.tc.loc main_arg9))
    (m (c.tc.loc main_arg10)) (m (c.tc.loc main_arg11)) (m (c.tc.loc main_arg12)) (m (c.tc.loc main_arg13)) (m (c.tc.loc main_arg14))
    (m (c.tc.loc main_arg15)) (m (c.tc.loc main_arg16)) (m (c.tc.loc main_arg17)) (m (c.tc.loc main_arg18)) r e

/-- The kernel's array: four blocks of 256 particles. -/
def outArr : FVec Ideal S4x256x3 .f32 := fun y => mout m c ⟨256 * (y 0).val + (y 1).val, by
  have h0 : (y 0).val < 4 := (y 0).isLt
  have h1 : (y 1).val < 256 := (y 1).isLt
  omega⟩ (y 2)

theorem idx : ∀ t : Fin cfg0.N, win0_0.index t = ![t.val, 0] ∧ win0_1.index t = ![0, 0] ∧ win0_2.index t = ![t.val, 0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![t.val, 0, 0] ∧ t.val < 4 :=
  (by decide +kernel : ∀ t : Fin grid0.N, _)

theorem blk_1 (t : Fin cfg0.N) : iblk m c 1 t = V m c main_v1 := by blk_ext! [iblk, idx t]
theorem blk_3 (t : Fin cfg0.N) : iblk m c 3 t = V m c main_v12 := by blk_ext! [iblk, idx t]
theorem blk_4 (t : Fin cfg0.N) : iblk m c 4 t = V m c main_v26 := by blk_ext! [iblk, idx t]
theorem blk_5 (t : Fin cfg0.N) : iblk m c 5 t = V m c main_v29 := by blk_ext! [iblk, idx t]
theorem blk_6 (t : Fin cfg0.N) : iblk m c 6 t = V m c main_v64 := by blk_ext! [iblk, idx t]
theorem blk_7 (t : Fin cfg0.N) : iblk m c 7 t = V m c main_v65 := by blk_ext! [iblk, idx t]
theorem blk_8 (t : Fin cfg0.N) : iblk m c 8 t = V m c main_v63 := by blk_ext! [iblk, idx t]
theorem blk_9 (t : Fin cfg0.N) : iblk m c 9 t = V m c main_v66 := by blk_ext! [iblk, idx t]
theorem blk_10 (t : Fin cfg0.N) : iblk m c 10 t = V m c main_v67 := by blk_ext! [iblk, idx t]

end Cert.Proof.Final

end
-- ==== Proof.Ref.lean ====
/- The reference's result at a particle and a channel: a sum over the neighbours of the fluid and the solid networks' values,
   each weighted by whether the neighbour is selected and of that type. -/
module

public import proofs.«01_k».proof.Proof.Gen.ReferenceIdeal
public import proofs.«01_k».proof.Proof.Gen.ReferenceIdeal.Run
public import Idealize.ShloMosaic.Lib.Claim
public import Idealize.ShloMosaic.Lib.Pointwise
public import Idealize.ShloMosaic.Lib.KernelVsHost

@[expose] public section

set_option maxRecDepth 16384

noncomputable section

namespace Cert.Proof.Ref

open Idealize.ShloMosaic Idealize.ShloMosaic.TcCoe Idealize.SL.Sem
open Cert.ReferenceIdeal Cert.ReferenceIdeal.Gen Cert.ReferenceIdeal.Value

/-- The last hidden layer, from the first layer's values before their tanh. -/
def hid (x : Fin 18 → EReal) (W1 : FVec Ideal S18x9 .f32) (b1 : FVec Ideal S9 .f32) (W2 : FVec Ideal S9x6 .f32) (b2 : FVec Ideal S6 .f32)
    (q : Fin 6) : EReal :=
  Ideal.tanh ((∑ p : Fin 9, Ideal.tanh ((∑ k : Fin 18, Ideal.tanh (x k) * W1 (ix2 k p)) + b1 (ix1 p)) * W2 (ix2 p q)) + b2 (ix1 q))

/-- A network's output channel, from the first layer's values before their tanh. -/
def net (x : Fin 18 → EReal) (W1 : FVec Ideal S18x9 .f32) (b1 : FVec Ideal S9 .f32) (W2 : FVec Ideal S9x6 .f32) (b2 : FVec Ideal S6 .f32)
    (W3 : FVec Ideal S6x3 .f32) (b3 : FVec Ideal S3 .f32) (e : Fin 3) : EReal :=
  (∑ q : Fin 6, hid x W1 b1 W2 b2 q * W3 (ix2 q e)) + b3 (ix1 e)

/-- The fluid network's input: relative position, neighbour's features, centre's velocity. -/
def fin9 (C : FVec Ideal S1024x6 .f32) (D : FVec Ideal S2048x7 .f32) (r : Fin 1024) (j : Fin 2048) (d : Fin 9) : EReal :=
  if h : d.val < 3 then D (ix2 j ⟨d.val, by omega⟩) - C (ix2 r ⟨d.val, by omega⟩)
  else if h : d.val - 3 < 3 then D (ix2 j ⟨3 + (d.val - 3), by omega⟩) else C (ix2 r ⟨3 + (d.val - 3 - 3), by omega⟩)

/-- The fluid network's first layer before its tanh. -/
def fpre (C : FVec Ideal S1024x6 .f32) (D : FVec Ideal S2048x7 .f32) (W : FVec Ideal S9x18 .f32) (b : FVec Ideal S18 .f32)
    (r : Fin 1024) (j : Fin 2048) (k : Fin 18) : EReal :=
  (∑ d : Fin 9, fin9 C D r j d * W (ix2 d k)) + b (ix1 k)

/-- The solid network's first layer before its tanh. -/
def spre (C : FVec Ideal S1024x6 .f32) (D : FVec Ideal S2048x7 .f32) (W : FVec Ideal S6x18 .f32) (b : FVec Ideal S18 .f32)
    (r : Fin 1024) (j : Fin 2048) (k : Fin 18) : EReal :=
  ((∑ d : Fin 3, (D (ix2 j ⟨d.val, by omega⟩) - C (ix2 r ⟨d.val, by omega⟩)) * W (ix2 ⟨d.val, by omega⟩ k))
    + ∑ d : Fin 3, C (ix2 r ⟨3 + d.val, by omega⟩) * W (ix2 ⟨3 + d.val, by omega⟩ k)) + b (ix1 k)

/-- The weight of a neighbour: its mask bit, if its type is `n`. -/
def wt (n : BitVec 32) (b : BitVec 1) (p : Ideal .f32) : EReal :=
  FloatOps.uitofp (F := Ideal) .f32 (IntOp.andi b (IntOp.cmpi .eq (FloatOps.fptosi 32 p) n))

def rout (M : IVec S1024x2048 1) (C : FVec Ideal S1024x6 .f32) (D : FVec Ideal S2048x7 .f32)
    (fW0 : FVec Ideal S9x18 .f32) (fb0 : FVec Ideal S18 .f32) (fW1 : FVec Ideal S18x9 .f32) (fb1 : FVec Ideal S9 .f32)
    (fW2 : FVec Ideal S9x6 .f32) (fb2 : FVec Ideal S6 .f32) (fW3 : FVec Ideal S6x3 .f32) (fb3 : FVec Ideal S3 .f32)
    (sW0 : FVec Ideal S6x18 .f32) (sb0 : FVec Ideal S18 .f32) (sW1 : FVec Ideal S18x9 .f32) (sb1 : FVec Ideal S9 .f32)
    (sW2 : FVec Ideal S9x6 .f32) (sb2 : FVec Ideal S6 .f32) (sW3 : FVec Ideal S6x3 .f32) (sb3 : FVec Ideal S3 .f32)
    (r : Fin 1024) (e : Fin 3) : EReal :=
  ∑ j : Fin 2048, (net (fpre C D fW0 fb0 r j) fW1 fb1 fW2 fb2 fW3 fb3 e * wt 0#32 (M (ix2 r j)) (D (ix2 j 6))
    + net (spre C D sW0 sb0 r j) sW1 sb1 sW2 sb2 sW3 sb3 e * wt 1#32 (M (ix2 r j)) (D (ix2 j 6)))

variable (m : (ℓ : Loc nD τ sig) → Buf (Elt Ideal) ℓ) (c : Dev nD)

theorem res_at (r : Fin 1024) (e : Fin 3) :
    (res_main_v75 m c : FVec Ideal S1024x3 .f32) (ix2 r e)
      = rout (m (c.tc.loc main_arg0)) (m (c.tc.loc main_arg1)) (m (c.tc.loc main_arg2)) (m (c.tc.loc main_arg3)) (m (c.tc.loc main_arg4))
          (m (c.tc.loc main_arg5)) (m (c.tc.loc main_arg6)) (m (c.tc.loc main_arg7)) (m (c.tc.loc main_arg8)) (m (c.tc.loc main_arg9))
          (m (c.tc.loc main_arg10)) (m (c.tc.loc main_arg11)) (m (c.tc.loc main_arg12)) (m (c.tc.loc main_arg13)) (m (c.tc.loc main_arg14))
          (m (c.tc.loc main_arg15)) (m (c.tc.loc main_arg16)) (m (c.tc.loc main_arg17)) (m (c.tc.loc main_arg18)) r e := by
  pointwise [res_main_v75]
  rfl

end Cert.Proof.Ref

end
-- ==== Proof.Algebra.lean ====
/- The kernel's value and the reference's are the same extended real. -/
module

public import proofs.«01_k».proof.Proof.Windows
public import proofs.«01_k».proof.Proof.Ref

@[expose] public section

set_option maxRecDepth 16384

noncomputable section

namespace Cert.Proof.Algebra

open Idealize.ShloMosaic
open Cert.KernelIdeal
open Cert.Proof.Group Cert.Proof.Host Cert.Proof.Final Cert.Proof.Ref

/-- A real number. -/
def IsReal (x : EReal) : Prop := ∃ a : ℝ, x = (a : EReal)

theorem isReal_zero : IsReal 0 := ⟨0, EReal.coe_zero.symm⟩
theorem isReal_one : IsReal 1 := ⟨1, EReal.coe_one.symm⟩
theorem IsReal.add {x y : EReal} : IsReal x → IsReal y → IsReal (x + y) := by
  rintro ⟨a, rfl⟩ ⟨b, rfl⟩; exact ⟨a + b, (EReal.coe_add a b).symm⟩
theorem IsReal.mul {x y : EReal} : IsReal x → IsReal y → IsReal (x * y) := by
  rintro ⟨a, rfl⟩ ⟨b, rfl⟩; exact ⟨a * b, (EReal.coe_mul a b).symm⟩

theorem isReal_tanh (x : EReal) : IsReal (Ideal.tanh x) := by
  induction x using EReal.rec with
  | bot => exact ⟨-1, by rw [Ideal.tanh_bot, EReal.coe_neg, EReal.coe_one]⟩
  | coe a => exact ⟨Real.tanh a, rfl⟩
  | top => exact isReal_one

theorem isReal_sum {ι : Type} (s : Finset ι) (f : ι → EReal) (h : ∀ i ∈ s, IsReal (f i)) : IsReal (∑ i ∈ s, f i) := by
  classical
  induction s using Finset.induction_on with
  | empty => exact isReal_zero
  | insert a s ha ih =>
    rw [Finset.sum_insert ha]
    exact (h a (Finset.mem_insert_self a s)).add (ih fun i hi => h i (Finset.mem_insert_of_mem hi))

theorem real_add_mul {x y z : EReal} : IsReal x → IsReal y → IsReal z → (x + y) * z = x * z + y * z := by
  rintro ⟨a, rfl⟩ ⟨b, rfl⟩ ⟨c, rfl⟩
  rw [← EReal.coe_add, ← EReal.coe_mul, ← EReal.coe_mul, ← EReal.coe_mul, ← EReal.coe_add, add_mul]

theorem real_sum_mul {ι : Type} (s : Finset ι) (f : ι → EReal) (z : EReal) (h : ∀ i ∈ s, IsReal (f i)) (hz : IsReal z) :
    (∑ i ∈ s, f i) * z = ∑ i ∈ s, f i * z := by
  classical
  induction s using Finset.induction_on with
  | empty => rw [Finset.sum_empty, Finset.sum_empty, zero_mul]
  | insert a s ha ih =>
    have hs : ∀ i ∈ s, IsReal (f i) := fun i hi => h i (Finset.mem_insert_of_mem hi)
    rw [Finset.sum_insert ha, Finset.sum_insert ha, real_add_mul (h a (Finset.mem_insert_self a s)) (isReal_sum s f hs) hz, ih hs]

/-- Weights that are not negative distribute over any factor. -/
theorem nonneg_sum_mul {ι : Type} (s : Finset ι) (w : ι → EReal) (z : EReal) (h : ∀ i ∈ s, 0 ≤ w i) :
    (∑ i ∈ s, w i) * z = ∑ i ∈ s, w i * z := by
  classical
  induction s using Finset.induction_on with
  | empty => rw [Finset.sum_empty, Finset.sum_empty, zero_mul]
  | insert a s ha ih =>
    have hs : ∀ i ∈ s, 0 ≤ w i := fun i hi => h i (Finset.mem_insert_of_mem hi)
    rw [Finset.sum_insert ha, Finset.sum_insert ha,
      EReal.right_distrib_of_nonneg (h a (Finset.mem_insert_self a s)) (Finset.sum_nonneg hs), ih hs]

/-- The last layer taken outside the sum over neighbours. -/
theorem pull (H : Fin 2048 → Fin 6 → EReal) (W : Fin 6 → EReal) (b : EReal) (w : Fin 2048 → EReal)
    (hH : ∀ j q, IsReal (H j q)) (hW : ∀ q, IsReal (W q)) (hw : ∀ j, w j = 0 ∨ w j = 1) :
    ∑ j, ((∑ q, H j q * W q) + b) * w j = (∑ q, W q * ∑ j, H j q * w j) + (∑ j, w j) * b := by
  have hwr : ∀ j, IsReal (w j) := fun j => by
    rcases hw j with h | h <;> rw [h]
    exacts [isReal_zero, isReal_one]
  have h0 : ∀ j, 0 ≤ w j := fun j => by
    rcases hw j with h | h <;> rw [h]
    exact zero_le_one
  have h1 : ∀ j, ((∑ q, H j q * W q) + b) * w j = (∑ q, W q * (H j q * w j)) + w j * b := fun j => by
    have e1 : (∑ q, W q * (H j q * w j)) = (∑ q, H j q * W q) * w j := by
      rw [real_sum_mul _ _ _ (fun q _ => (hH j q).mul (hW q)) (hwr j)]
      exact Finset.sum_congr rfl fun q _ => by rw [mul_comm (H j q) (W q), mul_assoc]
    rw [e1]
    rcases hw j with h | h <;> rw [h]
    · rw [mul_zero, mul_zero, zero_mul, add_zero]
    · rw [mul_one, mul_one, one_mul]
  rw [Finset.sum_congr rfl fun j _ => h1 j, Finset.sum_add_distrib, nonneg_sum_mul _ _ _ fun j _ => h0 j, Finset.sum_comm]
  refine congrArg (fun z : EReal => z + ∑ j, w j * b) (Finset.sum_congr rfl fun q _ => ?_)
  rw [mul_comm (W q), real_sum_mul _ _ _ (fun j _ => (hH j q).mul (hwr j)) (hW q)]
  exact Finset.sum_congr rfl fun j _ => mul_comm _ _

/-- `tanh 1` is a real number other than zero, so dividing by it undoes multiplying by it. -/
theorem div_mul_tanh (b : EReal) : Ideal.div b (Ideal.tanh 1) * Ideal.tanh 1 = b := by
  have h1 : Ideal.tanh 1 = ((Real.tanh 1 : ℝ) : EReal) := rfl
  have h0 : Real.tanh 1 ≠ 0 := by
    rw [Real.tanh_eq_sinh_div_cosh]
    exact div_ne_zero (Real.sinh_pos_iff.2 one_pos).ne' (Real.cosh_pos 1).ne'
  rw [h1, Ideal.div_coe h0, mul_assoc, ← EReal.coe_mul, one_div_mul_cancel h0, EReal.coe_one, mul_one]

/-! ## The weights -/

theorem mval_set (b : BitVec 1) : mval (b.setWidth 8) = if b = 1#1 then 1 else 0 := by
  have h : b = 0#1 ∨ b = 1#1 := by revert b; decide
  rcases h with rfl | rfl
  · show (((0#1 : BitVec 1).setWidth 8).toInt : ℝ) = (_ : EReal)
    simp
  · show (((1#1 : BitVec 1).setWidth 8).toInt : ℝ) = (_ : EReal)
    simp

theorem fptosi_zero : FloatOps.fptosi (F := Ideal) (φ := .f32) 32 (0 : EReal) = 0#32 := by
  have h : ∀ lo hi : Int, Ideal.toIntClamped lo hi ((0 : ℝ) : EReal) = max lo (min hi (if (0 : ℝ) ≤ 0 then ⌊(0 : ℝ)⌋ else ⌈(0 : ℝ)⌉)) :=
    fun _ _ => rfl
  show Ideal.fptosi 32 ((0 : ℝ) : EReal) = 0#32
  rw [Ideal.fptosi, h]
  simp

theorem fptosi_one : FloatOps.fptosi (F := Ideal) (φ := .f32) 32 (1 : EReal) = 1#32 := by
  have h : ∀ lo hi : Int, Ideal.toIntClamped lo hi ((1 : ℝ) : EReal) = max lo (min hi (if (0 : ℝ) ≤ 1 then ⌊(1 : ℝ)⌋ else ⌈(1 : ℝ)⌉)) :=
    fun _ _ => rfl
  show Ideal.fptosi 32 ((1 : ℝ) : EReal) = 1#32
  rw [Ideal.fptosi, h]
  simp

theorem uitofp_bit (b : BitVec 1) : FloatOps.uitofp (F := Ideal) .f32 b = (if b = 1#1 then 1 else 0 : EReal) := by
  have h : b = 0#1 ∨ b = 1#1 := by revert b; decide
  rcases h with rfl | rfl
  · show (((0#1 : BitVec 1).toNat : ℝ) : EReal) = _
    simp
  · show (((1#1 : BitVec 1).toNat : ℝ) : EReal) = _
    simp

theorem one_sub_one : (1 : EReal) - 1 = 0 := by
  rw [← EReal.coe_one, ← EReal.coe_sub, sub_self, EReal.coe_zero]

theorem wt_fluid (b : BitVec 1) (p : EReal) (hp : p = 0 ∨ p = 1) : wt 0#32 b p = mval (b.setWidth 8) * (1 - p) := by
  have h : b = 0#1 ∨ b = 1#1 := by revert b; decide
  unfold wt
  rw [mval_set, uitofp_bit]
  rcases hp with rfl | rfl
  · rw [fptosi_zero, sub_zero, mul_one]
    rcases h with rfl | rfl <;> rfl
  · rw [fptosi_one, one_sub_one, mul_zero]
    rcases h with rfl | rfl <;> rfl

theorem wt_solid (b : BitVec 1) (p : EReal) (hp : p = 0 ∨ p = 1) : wt 1#32 b p = mval (b.setWidth 8) * p := by
  have h : b = 0#1 ∨ b = 1#1 := by revert b; decide
  unfold wt
  rw [mval_set, uitofp_bit]
  rcases hp with rfl | rfl
  · rw [fptosi_zero, mul_zero]
    rcases h with rfl | rfl <;> rfl
  · rw [fptosi_one, mul_one]
    rcases h with rfl | rfl <;> rfl

theorem wt_01 (n : BitVec 32) (b : BitVec 1) (p : EReal) : wt n b p = 0 ∨ wt n b p = 1 := by
  unfold wt
  rw [uitofp_bit]
  split
  · exact Or.inr rfl
  · exact Or.inl rfl

/-! ## The first layer -/

/-- A difference times a weight, as the kernel forms it. -/
theorem sub_mul_real (x : EReal) {y w : EReal} : IsReal y → IsReal w → (x - y) * w = w * x + -w * y := by
  rintro ⟨b, rfl⟩ ⟨c, rfl⟩
  induction x using EReal.rec with
  | bot =>
    rw [EReal.bot_sub]
    rcases lt_trichotomy c 0 with h | h | h
    · rw [EReal.bot_mul_coe_of_neg h, EReal.coe_mul_bot_of_neg h, ← EReal.coe_neg, ← EReal.coe_mul, EReal.top_add_coe]
    · subst h
      rw [EReal.coe_zero, mul_zero, zero_mul, neg_zero, zero_mul, add_zero]
    · rw [EReal.bot_mul_coe_of_pos h, EReal.coe_mul_bot_of_pos h, EReal.bot_add]
  | coe a =>
    rw [← EReal.coe_sub, ← EReal.coe_neg, ← EReal.coe_mul, ← EReal.coe_mul, ← EReal.coe_mul, ← EReal.coe_add]
    exact congrArg _ (by ring)
  | top =>
    rw [EReal.top_sub_coe]
    rcases lt_trichotomy c 0 with h | h | h
    · rw [EReal.top_mul_coe_of_neg h, EReal.coe_mul_top_of_neg h, EReal.bot_add]
    · subst h
      rw [EReal.coe_zero, mul_zero, zero_mul, neg_zero, zero_mul, add_zero]
    · rw [EReal.top_mul_coe_of_pos h, EReal.coe_mul_top_of_pos h, ← EReal.coe_neg, ← EReal.coe_mul, EReal.top_add_coe]

theorem sum_six (f : Fin 6 → EReal) : ∑ d, f d = (∑ d : Fin 3, f ⟨d.val, by omega⟩) + ∑ d : Fin 3, f ⟨3 + d.val, by omega⟩ :=
  Fin.sum_univ_add (a := 3) (b := 3) f

theorem sum_nine (f : Fin 9 → EReal) : ∑ d, f d = (∑ d : Fin 3, f ⟨d.val, by omega⟩) + ((∑ d : Fin 3, f ⟨3 + d.val, by omega⟩)
    + ∑ d : Fin 3, f ⟨6 + d.val, by omega⟩) := by
  rw [Fin.sum_univ_add (a := 3) (b := 6) f, sum_six]
  rfl

section
variable (C : FVec Ideal S1024x6 .f32) (D : FVec Ideal S2048x7 .f32)
  (hC : ∀ (r : Fin 1024) (d : Fin 3), IsReal (C (ix2 r ⟨d.val, by omega⟩)))
include hC

theorem pre_fluid (w : FVec Ideal S9x18 .f32) (w' : FVec Ideal S6x18 .f32) (b b' : FVec Ideal S18 .f32)
    (hw : ∀ (d : Fin 3) (k : Fin 18), IsReal (w (ix2 ⟨d.val, by omega⟩ k))) (r : Fin 1024) (j : Fin 2048) (k : Fin 18) :
    (∑ d : Fin 6, oWa w w' (ix2 ⟨k.val, by omega⟩ d) * D (ix2 j ⟨d.val, by omega⟩))
      + ((∑ d : Fin 6, oWc w w' (ix2 ⟨k.val, by omega⟩ d) * C (ix2 r d)) + oB0 b b' (ix2 ⟨k.val, by omega⟩ 0)) = fpre C D w b r j k := by
  have e1 : (∑ d : Fin 6, oWa w w' (ix2 ⟨k.val, by omega⟩ d) * D (ix2 j ⟨d.val, by omega⟩))
      = ∑ d : Fin 6, w (ix2 ⟨d.val, by omega⟩ k) * D (ix2 j ⟨d.val, by omega⟩) :=
    Finset.sum_congr rfl fun d _ => congrArg (fun z : EReal => z * D (ix2 j ⟨d.val, by omega⟩)) (oWa_f w w' k d)
  have e2 : (∑ d : Fin 9, fin9 C D r j d * w (ix2 d k))
      = (∑ d : Fin 3, (w (ix2 ⟨d.val, by omega⟩ k) * D (ix2 j ⟨d.val, by omega⟩) + -(w (ix2 ⟨d.val, by omega⟩ k)) * C (ix2 r ⟨d.val, by omega⟩)))
        + ((∑ d : Fin 3, w (ix2 ⟨3 + d.val, by omega⟩ k) * D (ix2 j ⟨3 + d.val, by omega⟩))
        + ∑ d : Fin 3, w (ix2 ⟨6 + d.val, by omega⟩ k) * C (ix2 r ⟨3 + d.val, by omega⟩)) := by
    rw [sum_nine]
    refine Ideal.add_congr (Finset.sum_congr rfl fun d _ => ?_) (Ideal.add_congr (Finset.sum_congr rfl fun d _ => ?_) (Finset.sum_congr rfl fun d _ => ?_))
    · rw [← sub_mul_real _ (hC r d) (hw d k)]
      exact congrArg (fun z : EReal => z * w (ix2 ⟨d.val, by omega⟩ k)) (dif_pos d.isLt)
    · rw [mul_comm (w _)]
      refine congrArg (fun z : EReal => z * w (ix2 ⟨3 + d.val, by omega⟩ k)) ((dif_neg (by show ¬(3 + d.val < 3); omega)).trans ?_)
      refine (dif_pos (by show 3 + d.val - 3 < 3; omega)).trans (congrArg (fun z => D (ix2 j z)) (Fin.ext ?_))
      show 3 + (3 + d.val - 3) = 3 + d.val
      omega
    · rw [mul_comm (w _)]
      refine congrArg (fun z : EReal => z * w (ix2 ⟨6 + d.val, by omega⟩ k)) ((dif_neg (by show ¬(6 + d.val < 3); omega)).trans ?_)
      refine (dif_neg (by show ¬(6 + d.val - 3 < 3); omega)).trans (congrArg (fun z => C (ix2 r z)) (Fin.ext ?_))
      show 3 + (6 + d.val - 3 - 3) = 3 + d.val
      omega
  unfold fpre
  rw [e1, e2, oWc_f w w' k (fun d => C (ix2 r d)), oB0_f, sum_six, Finset.sum_add_distrib]
  abel

theorem pre_solid (w : FVec Ideal S9x18 .f32) (w' : FVec Ideal S6x18 .f32) (b b' : FVec Ideal S18 .f32)
    (hw : ∀ (d : Fin 3) (k : Fin 18), IsReal (w' (ix2 ⟨d.val, by omega⟩ k))) (r : Fin 1024) (j : Fin 2048) (k : Fin 18) :
    (∑ d : Fin 6, oWa w w' (ix2 ⟨18 + k.val, by omega⟩ d) * D (ix2 j ⟨d.val, by omega⟩))
      + ((∑ d : Fin 6, oWc w w' (ix2 ⟨18 + k.val, by omega⟩ d) * C (ix2 r d)) + oB0 b b' (ix2 ⟨18 + k.val, by omega⟩ 0)) = spre C D w' b' r j k := by
  unfold spre
  have e2 : (∑ d : Fin 3, (D (ix2 j ⟨d.val, by omega⟩) - C (ix2 r ⟨d.val, by omega⟩)) * w' (ix2 ⟨d.val, by omega⟩ k))
      = ∑ d : Fin 3, (w' (ix2 ⟨d.val, by omega⟩ k) * D (ix2 j ⟨d.val, by omega⟩) + -(w' (ix2 ⟨d.val, by omega⟩ k)) * C (ix2 r ⟨d.val, by omega⟩)) :=
    Finset.sum_congr rfl fun d _ => sub_mul_real _ (hC r d) (hw d k)
  have e3 : (∑ d : Fin 3, C (ix2 r ⟨3 + d.val, by omega⟩) * w' (ix2 ⟨3 + d.val, by omega⟩ k))
      = ∑ d : Fin 3, w' (ix2 ⟨3 + d.val, by omega⟩ k) * C (ix2 r ⟨3 + d.val, by omega⟩) :=
    Finset.sum_congr rfl fun d _ => mul_comm _ _
  rw [e2, e3, oWa_s w w' k (fun d => D (ix2 j ⟨d.val, by omega⟩)), oWc_s w w' k (fun d => C (ix2 r d)), oB0_s, Finset.sum_add_distrib]
  abel
end

/-! ## The hidden layers -/

section
variable (fW1 sW1 : FVec Ideal S18x9 .f32) (fb1 sb1 : FVec Ideal S9 .f32) (fW2 sW2 : FVec Ideal S9x6 .f32) (fb2 sb2 : FVec Ideal S6 .f32)
  (x y : Fin 40 → EReal)

/-- The kernel's second hidden layer. -/
abbrev khid : Fin 16 → EReal :=
  u2 (fun q p => blk2 fW2 sW2 (ix2 q p)) (fun q => cat2 fb2 sb2 (ix1 q))
    (u1 (fun p k => blk1 fW1 sW1 (ix2 p k)) (fun p => Ideal.div (cat1 fb1 sb1 (ix1 p)) (Ideal.tanh 1)) (u0 x y))

theorem u1_fluid (h : Fin 40 → EReal) (p : Fin 9) :
    u1 (fun p k => blk1 fW1 sW1 (ix2 p k)) (fun p => Ideal.div (cat1 fb1 sb1 (ix1 p)) (Ideal.tanh 1)) h ⟨p.val, by omega⟩
      = Ideal.tanh ((∑ k : Fin 18, h ⟨k.val, by omega⟩ * fW1 (ix2 k p)) + fb1 (ix1 p)) := by
  show Ideal.tanh ((∑ k : Fin 40, blk1 fW1 sW1 (ix2 ⟨p.val, by omega⟩ k) * h k)
    + Ideal.div (cat1 fb1 sb1 (ix1 ⟨p.val, by omega⟩)) (Ideal.tanh 1) * Ideal.tanh 1) = _
  rw [div_mul_tanh, blk1_f, cat1_f]
  simp only [mul_comm]

theorem u1_solid (h : Fin 40 → EReal) (p : Fin 9) :
    u1 (fun p k => blk1 fW1 sW1 (ix2 p k)) (fun p => Ideal.div (cat1 fb1 sb1 (ix1 p)) (Ideal.tanh 1)) h ⟨9 + p.val, by omega⟩
      = Ideal.tanh ((∑ k : Fin 18, h ⟨18 + k.val, by omega⟩ * sW1 (ix2 k p)) + sb1 (ix1 p)) := by
  show Ideal.tanh ((∑ k : Fin 40, blk1 fW1 sW1 (ix2 ⟨9 + p.val, by omega⟩ k) * h k)
    + Ideal.div (cat1 fb1 sb1 (ix1 ⟨9 + p.val, by omega⟩)) (Ideal.tanh 1) * Ideal.tanh 1) = _
  rw [div_mul_tanh, blk1_s, cat1_s]
  simp only [mul_comm]

theorem hid_fluid (q : Fin 6) : khid fW1 sW1 fb1 sb1 fW2 sW2 fb2 sb2 x y ⟨q.val, by omega⟩
    = hid (fun k => x ⟨k.val, by omega⟩ + y ⟨k.val, by omega⟩) fW1 fb1 fW2 fb2 q := by
  show Ideal.tanh ((∑ p : Fin 18, blk2 fW2 sW2 (ix2 ⟨q.val, by omega⟩ p) * u1 _ _ _ p) + cat2 fb2 sb2 (ix1 ⟨q.val, by omega⟩)) = _
  rw [blk2_f, cat2_f]
  unfold hid
  refine congrArg (fun z : EReal => Ideal.tanh (z + fb2 (ix1 q))) (Finset.sum_congr rfl fun p _ => ?_)
  rw [mul_comm, u1_fluid]
  rfl

theorem hid_solid (q : Fin 6) : khid fW1 sW1 fb1 sb1 fW2 sW2 fb2 sb2 x y ⟨6 + q.val, by omega⟩
    = hid (fun k => x ⟨18 + k.val, by omega⟩ + y ⟨18 + k.val, by omega⟩) sW1 sb1 sW2 sb2 q := by
  show Ideal.tanh ((∑ p : Fin 18, blk2 fW2 sW2 (ix2 ⟨6 + q.val, by omega⟩ p) * u1 _ _ _ p) + cat2 fb2 sb2 (ix1 ⟨6 + q.val, by omega⟩)) = _
  rw [blk2_s, cat2_s]
  unfold hid
  refine congrArg (fun z : EReal => Ideal.tanh (z + sb2 (ix1 q))) (Finset.sum_congr rfl fun p _ => ?_)
  rw [mul_comm, u1_solid]
  rfl
end

theorem lt_six (d : Fin 3) : d.val < 6 := by omega
theorem lt_nine (d : Fin 3) : d.val < 9 := by omega

/-- The kernel's value is the reference's. -/
theorem kout_eq (M : IVec S1024x2048 1) (C : FVec Ideal S1024x6 .f32) (D : FVec Ideal S2048x7 .f32)
    (fW0 : FVec Ideal S9x18 .f32) (fb0 : FVec Ideal S18 .f32) (fW1 : FVec Ideal S18x9 .f32) (fb1 : FVec Ideal S9 .f32)
    (fW2 : FVec Ideal S9x6 .f32) (fb2 : FVec Ideal S6 .f32) (fW3 : FVec Ideal S6x3 .f32) (fb3 : FVec Ideal S3 .f32)
    (sW0 : FVec Ideal S6x18 .f32) (sb0 : FVec Ideal S18 .f32) (sW1 : FVec Ideal S18x9 .f32) (sb1 : FVec Ideal S9 .f32)
    (sW2 : FVec Ideal S9x6 .f32) (sb2 : FVec Ideal S6 .f32) (sW3 : FVec Ideal S6x3 .f32) (sb3 : FVec Ideal S3 .f32)
    (hp : ∀ j : Fin 2048, D (ix2 j 6) = 0 ∨ D (ix2 j 6) = 1)
    (hC : ∀ (r : Fin 1024) (d : Fin 3), IsReal (C (ix2 r ⟨d.val, lt_six d⟩)))
    (hf0 : ∀ (d : Fin 3) (k : Fin 18), IsReal (fW0 (ix2 ⟨d.val, lt_nine d⟩ k)))
    (hs0 : ∀ (d : Fin 3) (k : Fin 18), IsReal (sW0 (ix2 ⟨d.val, lt_six d⟩ k)))
    (hf3 : ∀ (q : Fin 6) (e : Fin 3), IsReal (fW3 (ix2 q e))) (hs3 : ∀ (q : Fin 6) (e : Fin 3), IsReal (sW3 (ix2 q e)))
    (r : Fin 1024) (e : Fin 3) :
    kout M C D fW0 fb0 fW1 fb1 fW2 fb2 fW3 fb3 sW0 sb0 sW1 sb1 sW2 sb2 sW3 sb3 r e
      = rout M C D fW0 fb0 fW1 fb1 fW2 fb2 fW3 fb3 sW0 sb0 sW1 sb1 sW2 sb2 sW3 sb3 r e := by
  have hF : ∀ j (q : Fin 6), khid fW1 sW1 fb1 sb1 fW2 sW2 fb2 sb2 (fun k => ∑ d : Fin 6, oWa fW0 sW0 (ix2 k d) * D (ix2 j ⟨d.val, by omega⟩))
      (fun k => (∑ d : Fin 6, oWc fW0 sW0 (ix2 k d) * C (ix2 r d)) + oB0 fb0 sb0 (ix2 k 0)) ⟨q.val, by omega⟩
      = hid (fpre C D fW0 fb0 r j) fW1 fb1 fW2 fb2 q := fun j q => by
    rw [hid_fluid]
    exact congrArg (fun z => hid z fW1 fb1 fW2 fb2 q) (funext fun k => pre_fluid C D hC fW0 sW0 fb0 sb0 hf0 r j k)
  have hS : ∀ j (q : Fin 6), khid fW1 sW1 fb1 sb1 fW2 sW2 fb2 sb2 (fun k => ∑ d : Fin 6, oWa fW0 sW0 (ix2 k d) * D (ix2 j ⟨d.val, by omega⟩))
      (fun k => (∑ d : Fin 6, oWc fW0 sW0 (ix2 k d) * C (ix2 r d)) + oB0 fb0 sb0 (ix2 k 0)) ⟨6 + q.val, by omega⟩
      = hid (spre C D sW0 sb0 r j) sW1 sb1 sW2 sb2 q := fun j q => by
    rw [hid_solid]
    exact congrArg (fun z => hid z sW1 sb1 sW2 sb2 q) (funext fun k => pre_solid C D hC fW0 sW0 fb0 sb0 hs0 r j k)
  have hwf : ∀ j, mval ((M (ix2 r j)).setWidth 8) * (1 - D (ix2 j 6)) = wt 0#32 (M (ix2 r j)) (D (ix2 j 6)) := fun j => (wt_fluid _ _ (hp j)).symm
  have hws : ∀ j, mval ((M (ix2 r j)).setWidth 8) * D (ix2 j 6) = wt 1#32 (M (ix2 r j)) (D (ix2 j 6)) := fun j => (wt_solid _ _ (hp j)).symm
  unfold kout kval rout net
  rw [Finset.sum_add_distrib]
  refine Eq.trans ?_ (Ideal.add_congr
    (pull (fun j q => hid (fpre C D fW0 fb0 r j) fW1 fb1 fW2 fb2 q) (fun q => fW3 (ix2 q e)) (fb3 (ix1 e))
      (fun j => wt 0#32 (M (ix2 r j)) (D (ix2 j 6))) (fun j q => isReal_tanh _) (fun q => hf3 q e) (fun j => wt_01 _ _ _))
    (pull (fun j q => hid (spre C D sW0 sb0 r j) sW1 sb1 sW2 sb2 q) (fun q => sW3 (ix2 q e)) (sb3 (ix1 e))
      (fun j => wt 1#32 (M (ix2 r j)) (D (ix2 j 6))) (fun j q => isReal_tanh _) (fun q => hs3 q e) (fun j => wt_01 _ _ _))).symm
  rw [blk3_sum]
  have c1 : ∀ q : Fin 6, (⟨q.val, by omega⟩ : Fin 16).val < 6 := fun q => q.isLt
  have c2 : ∀ q : Fin 6, ¬((⟨6 + q.val, by omega⟩ : Fin 16).val < 6) := fun q => by show ¬(6 + q.val < 6); omega
  have c3 : ∀ q : Fin 6, (⟨6 + q.val, by omega⟩ : Fin 16).val < 12 := fun q => by show 6 + q.val < 12; omega
  rw [add_assoc, add_add_add_comm]
  simp only [hwf, hws]
  refine Ideal.add_congr (Ideal.add_congr (Finset.sum_congr rfl fun q _ => ?_) rfl) (Ideal.add_congr (Finset.sum_congr rfl fun q _ => ?_) rfl)
  · refine congrArg (fun z : EReal => fW3 (ix2 q e) * z) (Finset.sum_congr rfl fun j _ => ?_)
    exact Ideal.mul_congr (hF j q) (if_pos (c1 q))
  · refine congrArg (fun z : EReal => sW3 (ix2 q e) * z) (Finset.sum_congr rfl fun j _ => ?_)
    exact Ideal.mul_congr (hS j q) ((if_neg (c2 q)).trans (if_pos (c3 q)))

end Cert.Proof.Algebra

end
-- ==== Proof.Final.lean ====
/- The array the kernel leaves, as a function of the arguments. -/
module

public import proofs.«01_k».proof.Proof.Windows

@[expose] public section

set_option maxRecDepth 16384

noncomputable section

namespace Cert.Proof.Final

open Idealize.ShloMosaic Idealize.ShloMosaic.TcCoe Idealize.SL.Sem
open Idealize.ShloMosaic.Pipeline (Dat)
open Cert.KernelIdeal Cert.KernelIdeal.Gen
open Cert.Proof.Group Cert.Proof.Host

variable (m : (ℓ : Loc nD τ sig) → Buf (Elt Ideal) ℓ) (c : Dev nD)

/-- A grid point's mask block. -/
theorem blk_0 (t : Fin cfg0.N) (i : Fin 256) (j : Fin 2048) (h : 256 * t.val + i.val < 1024) :
    (iblk m c 0 t : Vec Ideal S256x2048 .i8) (ix2 i j)
      = ((m (c.tc.loc main_arg0) : IVec S1024x2048 1) (ix2 ⟨256 * t.val + i.val, h⟩ j)).setWidth 8 := by
  have e : (iblk m c 0 t : Vec Ideal S256x2048 .i8) (ix2 i j) = (V m c main_v0 : Vec Ideal S1024x2048 .i8) (ix2 ⟨256 * t.val + i.val, h⟩ j) := by
    blk_ext [iblk, idx t]
  rw [e, V_v0]
  rfl

/-- A grid point's centre particles. -/
theorem blk_2 (t : Fin cfg0.N) (d : Fin 6) (i : Fin 256) (h : 256 * t.val + i.val < 1024) :
    (iblk m c 2 t : Vec Ideal S1x6x256 .f32) (ix3 0 d i)
      = (m (c.tc.loc main_arg1) : FVec Ideal S1024x6 .f32) (ix2 ⟨256 * t.val + i.val, h⟩ d) := by
  have ht : t.val < 4 := (idx t).2.2.2.2.2.2.2.2.2.2.2.2
  have e : (iblk m c 2 t : Vec Ideal S1x6x256 .f32) (ix3 0 d i) = (V m c main_v4 : Vec Ideal S4x6x256 .f32) (ix3 ⟨t.val, ht⟩ d i) := by
    blk_ext [iblk, idx t]
  rw [e, V_v4]
  refine (oC_at _ ⟨t.val, ht⟩ d i (by show t.val * 256 + i.val < 1024; omega)).trans ?_
  refine congrArg (fun r => (m (c.tc.loc main_arg1) : FVec Ideal S1024x6 .f32) (ix2 r d)) (Fin.ext ?_)
  show t.val * 256 + i.val = 256 * t.val + i.val
  omega

theorem cdT_at (x : FVec Ideal S2048x7 .f32) (d : Fin 7) (j : Fin 2048) :
    transpose S7x2048 [1, 0] x transposes_S2048x7_S7x2048_1_0 (ix2 d j) = x (ix2 j d) := by
  pointwise

theorem row_at (x : FVec Ideal S3 .f32) (e : Fin 3) : shapeCast S1x3 x shapeCasts_S3_S1x3 (ix2 0 e) = x (ix1 e) := by
  pointwise

theorem kval_congr {A1 : Fin 18 → Fin 40 → EReal} {c1 : Fin 18 → EReal} {A2 : Fin 16 → Fin 18 → EReal} {c2 A3 : Fin 16 → EReal}
    {X X' : Fin 2048 → Fin 40 → EReal} {Y : Fin 40 → EReal} {wf wf' ws ws' : Fin 2048 → EReal} {b1 b1' b2 b2' : EReal}
    (hX : X = X') (hf : wf = wf') (hs : ws = ws') (h1 : b1 = b1') (h2 : b2 = b2') :
    kval A1 c1 A2 c2 A3 X Y wf ws b1 b2 = kval A1 c1 A2 c2 A3 X' Y wf' ws' b1' b2' := by
  rw [hX, hf, hs, h1, h2]

theorem kval_out (M : IVec S1024x2048 1) (C : FVec Ideal S1024x6 .f32) (D : FVec Ideal S2048x7 .f32)
    (fW0 : FVec Ideal S9x18 .f32) (fb0 : FVec Ideal S18 .f32) (fW1 : FVec Ideal S18x9 .f32) (fb1 : FVec Ideal S9 .f32)
    (fW2 : FVec Ideal S9x6 .f32) (fb2 : FVec Ideal S6 .f32) (fW3 : FVec Ideal S6x3 .f32) (fb3 : FVec Ideal S3 .f32)
    (sW0 : FVec Ideal S6x18 .f32) (sb0 : FVec Ideal S18 .f32) (sW1 : FVec Ideal S18x9 .f32) (sb1 : FVec Ideal S9 .f32)
    (sW2 : FVec Ideal S9x6 .f32) (sb2 : FVec Ideal S6 .f32) (sW3 : FVec Ideal S6x3 .f32) (sb3 : FVec Ideal S3 .f32) (r : Fin 1024) (e : Fin 3) :
    kval (fun p k => blk1 fW1 sW1 (ix2 p k)) (fun p => Ideal.div (cat1 fb1 sb1 (ix1 p)) (Ideal.tanh 1)) (fun q p => blk2 fW2 sW2 (ix2 q p))
      (fun q => cat2 fb2 sb2 (ix1 q)) (fun q => blk3 fW3 sW3 (ix2 e q))
      (fun j k => ∑ d : Fin 6, oWa fW0 sW0 (ix2 k d) * transpose S7x2048 [1, 0] D transposes_S2048x7_S7x2048_1_0 (ix2 ⟨d.val, by omega⟩ j))
      (fun k => (∑ d : Fin 6, oWc fW0 sW0 (ix2 k d) * C (ix2 r d)) + oB0 fb0 sb0 (ix2 k 0))
      (fun j => mval ((M (ix2 r j)).setWidth 8) * (1 - transpose S7x2048 [1, 0] D transposes_S2048x7_S7x2048_1_0 (ix2 6 j)))
      (fun j => mval ((M (ix2 r j)).setWidth 8) * transpose S7x2048 [1, 0] D transposes_S2048x7_S7x2048_1_0 (ix2 6 j))
      (shapeCast S1x3 fb3 shapeCasts_S3_S1x3 (ix2 0 e)) (shapeCast S1x3 sb3 shapeCasts_S3_S1x3 (ix2 0 e))
      = kout M C D fW0 fb0 fW1 fb1 fW2 fb2 fW3 fb3 sW0 sb0 sW1 sb1 sW2 sb2 sW3 sb3 r e := by
  unfold kout
  refine kval_congr ?_ (funext fun j => ?_) (funext fun j => ?_) (row_at fb3 e) (row_at sb3 e)
  · refine funext fun j => funext fun k => Finset.sum_congr rfl fun d _ => ?_
    exact congrArg (fun z : EReal => oWa fW0 sW0 (ix2 k d) * z) (cdT_at D ⟨d.val, by omega⟩ j)
  · exact congrArg (fun z : EReal => mval ((M (ix2 r j)).setWidth 8) * (1 - z)) (cdT_at D 6 j)
  · exact congrArg (fun z : EReal => mval ((M (ix2 r j)).setWidth 8) * z) (cdT_at D 6 j)

/-- The block's entry at one particle and channel, over the blocks' contents. -/
theorem entry (M : IVec S1024x2048 1) (C : FVec Ideal S1024x6 .f32) (D : FVec Ideal S2048x7 .f32)
    (fW0 : FVec Ideal S9x18 .f32) (fb0 : FVec Ideal S18 .f32) (fW1 : FVec Ideal S18x9 .f32) (fb1 : FVec Ideal S9 .f32)
    (fW2 : FVec Ideal S9x6 .f32) (fb2 : FVec Ideal S6 .f32) (fW3 : FVec Ideal S6x3 .f32) (fb3 : FVec Ideal S3 .f32)
    (sW0 : FVec Ideal S6x18 .f32) (sb0 : FVec Ideal S18 .f32) (sW1 : FVec Ideal S18x9 .f32) (sb1 : FVec Ideal S9 .f32)
    (sW2 : FVec Ideal S9x6 .f32) (sb2 : FVec Ideal S6 .f32) (sW3 : FVec Ideal S6x3 .f32) (sb3 : FVec Ideal S3 .f32)
    (x0 : Vec Ideal S256x2048 .i8) (x2 : Vec Ideal S1x6x256 .f32) (i : Fin 256) (e : Fin 3) (r : Fin 1024)
    (h0 : ∀ j, x0 (ix2 i j) = (M (ix2 r j)).setWidth 8) (h2 : ∀ d, x2 (ix3 0 d i) = C (ix2 r d)) :
    k0_pay1 (concatenate S256x3 0 (List.ofFn fun n : Fin 32 => (⟨S8x3, grp
        (k0_pay4 (transpose S7x2048 [1, 0] D transposes_S2048x7_S7x2048_1_0) (oWa fW0 sW0))
        (k0_pay5 (oWc fW0 sW0) x2 (oB0 fb0 sb0)) (k0_pay7 (transpose S7x2048 [1, 0] D transposes_S2048x7_S7x2048_1_0) x0)
        (k0_pay8 (transpose S7x2048 [1, 0] D transposes_S2048x7_S7x2048_1_0) x0)
        k0_pay9 k0_pay10 (oW1 fW1 sW1 fb1 sb1) (oW2 fW2 sW2 fb2 sb2) (oW3 fW3 sW3) n⟩ : (s : Shape) × (s.Idx → Ideal .f32))) (stack _))
      (k0_pay132 (k0_pay7 (transpose S7x2048 [1, 0] D transposes_S2048x7_S7x2048_1_0) x0))
      (k0_pay133 (k0_pay8 (transpose S7x2048 [1, 0] D transposes_S2048x7_S7x2048_1_0) x0))
      (shapeCast S1x3 fb3 shapeCasts_S3_S1x3) (shapeCast S1x3 sb3 shapeCasts_S3_S1x3) (ix3 0 i e)
      = kout M C D fW0 fb0 fW1 fb1 fW2 fb2 fW3 fb3 sW0 sb0 sW1 sb1 sW2 sb2 sW3 sb3 r e := by
  refine (body_at x0 _ x2 _ _ _ _ _ _ _ _ _ _ _ _ _
    (fun a b p k h h' => oW1_at _ _ _ _ a b p k h h') (fun a p h => oW1_last _ _ _ _ a p h)
    (fun a b q p h h' => oW2_at _ _ _ _ a b q p h h') (fun a q h => oW2_last _ _ _ _ a q h)
    (fun a b e q h h' => oW3_at _ _ a b e q h h') i e).trans ?_
  simp only [h0, h2]
  exact kval_out M C D fW0 fb0 fW1 fb1 fW2 fb2 fW3 fb3 sW0 sb0 sW1 sb1 sW2 sb2 sW3 sb3 r e

/-- What grid point `t` writes at particle `i`, channel `e`. -/
theorem point (t : Fin cfg0.N) (i : Fin 256) (e : Fin 3) (h : 256 * t.val + i.val < 1024) :
    k0_pay1 (concatenate S256x3 0 (List.ofFn fun n : Fin 32 => (⟨S8x3, grp (k0_pay4 (iblk m c 1 t) (iblk m c 3 t))
        (k0_pay5 (iblk m c 4 t) (iblk m c 2 t) (iblk m c 5 t)) (k0_pay7 (iblk m c 1 t) (iblk m c 0 t)) (k0_pay8 (iblk m c 1 t) (iblk m c 0 t))
        k0_pay9 k0_pay10 (iblk m c 6 t) (iblk m c 7 t) (iblk m c 8 t) n⟩ : (s : Shape) × (s.Idx → Ideal .f32))) (stack _))
      (k0_pay132 (k0_pay7 (iblk m c 1 t) (iblk m c 0 t))) (k0_pay133 (k0_pay8 (iblk m c 1 t) (iblk m c 0 t))) (iblk m c 9 t) (iblk m c 10 t) (ix3 0 i e)
      = mout m c ⟨256 * t.val + i.val, h⟩ e := by
  rw [blk_1, blk_3, blk_4, blk_5, blk_6, blk_7, blk_8, blk_9, blk_10, V_v1, V_v12, V_v26, V_v29, V_v64, V_v65, V_v63, V_v66, V_v67]
  exact entry _ _ _ _ _ _ _ _ _ _ _ _ _ _ _ _ _ _ _ (iblk m c 0 t) (iblk m c 2 t) i e _ (fun j => blk_0 m c t i j h) (fun d => blk_2 m c t d i h)

theorem out_clean (x0 : Vec Ideal S256x2048 .i8) (x1 : Vec Ideal S7x2048 .f32) (x2 : Vec Ideal S1x6x256 .f32) (x3 x4 : Vec Ideal S40x6 .f32)
    (x5 : Vec Ideal S40x1 .f32) (x6 : Vec Ideal S144x321 .bf16) (x7 : Vec Ideal S128x145 .bf16) (x8 : Vec Ideal S24x128 .f32)
    (x9 x10 : Vec Ideal S1x3 .f32) :
    out0_11 x0 x1 x2 x3 x4 x5 x6 x7 x8 x9 x10
      = k0_pay1 (concatenate S256x3 0 (List.ofFn fun n : Fin 32 => (⟨S8x3, grp (k0_pay4 x1 x3) (k0_pay5 x4 x2 x5) (k0_pay7 x1 x0) (k0_pay8 x1 x0)
          k0_pay9 k0_pay10 x6 x7 x8 n⟩ : (s : Shape) × (s.Idx → Ideal .f32))) (stack _))
        (k0_pay132 (k0_pay7 x1 x0)) (k0_pay133 (k0_pay8 x1 x0)) x9 x10 := by
  rw [out_groups]
  have l0 : View.ld x0 r0_4 = x0 := View.ld_unit_lit _ _ (by decide)
  have l1 : View.ld x1 r0_0 = x1 := View.ld_unit_lit _ _ (by decide)
  have l2 : View.ld x2 r0_2 = x2 := View.ld_unit_lit _ _ (by decide)
  have l3 : View.ld x3 r0_1 = x3 := View.ld_unit_lit _ _ (by decide)
  have l4 : View.ld x4 r0_1 = x4 := View.ld_unit_lit _ _ (by decide)
  have l5 : View.ld x5 r0_3 = x5 := View.ld_unit_lit _ _ (by decide)
  have l6 : View.ld x6 r0_5 = x6 := View.ld_unit_lit _ _ (by decide)
  have l7 : View.ld x7 r0_6 = x7 := View.ld_unit_lit _ _ (by decide)
  have l8 : View.ld x8 r0_7 = x8 := View.ld_unit_lit _ _ (by decide)
  have l9 : View.ld x9 r0_8 = x9 := View.ld_unit_lit _ _ (by decide)
  have l10 : View.ld x10 r0_8 = x10 := View.ld_unit_lit _ _ (by decide)
  unfold k0_pay134 k0_pay135 k0_pay136 k0_pay137 k0_pay138 k0_pay139
  rw [l0, l1, l2, l3, l4, l5, l6, l7, l8, l9, l10]
  exact View.canon_cons_unit_lit _ _ _ (by decide)

/-- The kernel's array after the run. -/
theorem final : (dats m 0 c).arrAt 11 (cfgs 0).N = outArr m c := by
  refine (dats m 0 c).arrAt_eq_of_covers 11 _ (by decide +kernel) fun t _ y => ?_
  have ht : t.val < 4 := (idx t).2.2.2.2.2.2.2.2.2.2.2.2
  blk_simp
  rw [after0_11, out_clean]
  idx_vars y
  obtain rfl : y0 = 0 := Subsingleton.elim _ _
  have hlt : 256 * t.val + y1.val < 1024 := by omega
  refine (point m c t y1 y2 hlt).trans ?_
  show _ = mout m c _ _
  refine congrArg₂ (mout m c) (Fin.ext ?_) (Fin.ext ?_)
  · blk_simp [idx t]
    show 256 * t.val + y1.val = 256 * (t.val + 0) + y1.val
    omega
  · blk_simp [idx t]

theorem arr_inj : Function.Injective (Pipeline.arrRef spec0) := by decide

/-- The reshaped result after the run. -/
theorem result : Pipeline.afterTail₀ cfgs (dats m) 0 (V0 m) [hostOps1] c main_v69
    = shapeCast S1024x3 (outArr m c) shapeCasts_S4x256x3_S1024x3 := by
  unfold Pipeline.afterTail₀
  show StableHlo.after hostOps1 _ _ = _
  after_reads_simp
  rw [Pipeline.withArrays_arr spec0 arr_inj c (V0 m c) (fun w => (dats m 0 c).arrAt w (cfgs 0).N) 11, final]
  rfl

end Cert.Proof.Final

end
-- ==== Proof.Pre.lean ====
/- What the precondition says: the types are 0 or 1, and the centres' positions, the first three rows of the first layers' weights and
   the last layers' weights are real numbers. -/
module

public import proofs.«01_k».proof.Defs
public import Idealize.ShloMosaic.Lib.Pointwise
public import Idealize.ShloMosaic.Lib.KernelVsHost
public import Idealize.ShloMosaic.Lib.ReduceAll

@[expose] public section

set_option maxRecDepth 16384

noncomputable section

namespace Cert.Proof.Pre

open Idealize.ShloMosaic Cert.Pre_typed_and_finite Cert.Pre_typed_and_finite.Facts

instance : Subsingleton S_.Idx := ⟨fun a b => funext fun d => d.elim0⟩

/-- An extended real whose magnitude is below infinity is a real number. -/
theorem real_of_abs_lt (x : EReal) (h : Ideal.cmp .olt (max x (-x)) ⊤ = 1#1) : ∃ a : ℝ, x = (a : EReal) := by
  induction x using EReal.rec with
  | bot => exact absurd h (by simp [Ideal.cmp])
  | coe a => exact ⟨a, rfl⟩
  | top => exact absurd h (by simp [Ideal.cmp])

/-- An array all of whose magnitudes are below infinity holds real numbers. -/
theorem real_of_all {s : Shape} {axes : List (Fin s.rank)} (x : FVec Ideal s .f32) (hb : S_.BroadcastsInDim s (![] : Fin 0 → Fin s.rank))
    (v : IVec S_ 1) (h : s.ReducesTo axes S_) (hu : 0 < S_.numel) (j : S_.Idx)
    (e : Host.reduce IntOp.andi (cmpf .olt (Host.absf x) (broadcastInDim s ![] hb (constant S_ .f32 0x7F800000#32))) v h hu j = 1#1)
    (i : s.Idx) : ∃ a : ℝ, x i = (a : EReal) := by
  have h1 := Host.reduce_andi_all _ _ _ _ _ e i
  refine real_of_abs_lt _ (Eq.trans ?_ h1)
  have ht : (Ideal.ofBits .f32 0x7F800000#32 : EReal) = ⊤ := by simp [Ideal.ofBits, Ideal.ieee]
  show Ideal.cmp .olt (max (x i) (-(x i))) ⊤ = Ideal.cmp .olt (max (x i) (-(x i))) (Ideal.ofBits .f32 0x7F800000#32)
  rw [ht]

theorem eq_of_oeq (x y : EReal) (h : Ideal.cmp .oeq x y = 1#1) : x = y := by
  by_contra hne
  exact absurd h (by simp [Ideal.cmp, hne])

variable [Facts]

theorem unpack (M : IVec S1024x2048 1) (C : FVec Ideal S1024x6 .f32) (D : FVec Ideal S2048x7 .f32)
    (fW0 : FVec Ideal S9x18 .f32) (fb0 : FVec Ideal S18 .f32) (fW1 : FVec Ideal S18x9 .f32) (fb1 : FVec Ideal S9 .f32)
    (fW2 : FVec Ideal S9x6 .f32) (fb2 : FVec Ideal S6 .f32) (fW3 : FVec Ideal S6x3 .f32) (fb3 : FVec Ideal S3 .f32)
    (sW0 : FVec Ideal S6x18 .f32) (sb0 : FVec Ideal S18 .f32) (sW1 : FVec Ideal S18x9 .f32) (sb1 : FVec Ideal S9 .f32)
    (sW2 : FVec Ideal S9x6 .f32) (sb2 : FVec Ideal S6 .f32) (sW3 : FVec Ideal S6x3 .f32) (sb3 : FVec Ideal S3 .f32)
    (h : fn M C D fW0 fb0 fW1 fb1 fW2 fb2 fW3 fb3 sW0 sb0 sW1 sb1 sW2 sb2 sW3 sb3 = fun _ => 1#1) :
    (∀ j : Fin 2048, D (ix2 j 6) = 0 ∨ D (ix2 j 6) = 1)
    ∧ (∀ (r : Fin 1024) (d : Fin 3), ∃ a : ℝ, C (ix2 r ⟨d.val, by omega⟩) = (a : EReal))
    ∧ (∀ (d : Fin 3) (k : Fin 18), ∃ a : ℝ, fW0 (ix2 ⟨d.val, by omega⟩ k) = (a : EReal))
    ∧ (∀ (d : Fin 3) (k : Fin 18), ∃ a : ℝ, sW0 (ix2 ⟨d.val, by omega⟩ k) = (a : EReal))
    ∧ (∀ (q : Fin 6) (e : Fin 3), ∃ a : ℝ, fW3 (ix2 q e) = (a : EReal))
    ∧ (∀ (q : Fin 6) (e : Fin 3), ∃ a : ℝ, sW3 (ix2 q e) = (a : EReal)) := by
  have e := congrFun h (fun d => d.elim0)
  unfold fn fn_part1 fn_part2 at e
  dsimp only at e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e1, e2⟩ := IntOp.andi_eq_one.1 e
  refine ⟨fun j => ?_, fun r d => ?_, fun d k => ?_, fun d k => ?_, fun q e => ?_, fun q e => ?_⟩
  · have h1 := Host.reduce_andi_all _ _ _ _ _ e1 (ix1 j)
    have hD : shapeCast S2048 (extractStridedSlice S2048x1 ![0, 6] D slices_S2048x7_S2048x1_0_6) shapeCasts_S2048x1_S2048 (ix1 j) = D (ix2 j 6) := by
      pointwise
    rcases IntOp.ori_eq_one.1 h1 with h2 | h2
    · left
      have h3 := eq_of_oeq _ _ h2
      refine hD.symm.trans (h3.trans ?_)
      pointwise
    · right
      have h3 := eq_of_oeq _ _ h2
      refine hD.symm.trans (h3.trans ?_)
      pointwise
  · obtain ⟨a, ha⟩ := real_of_all _ _ _ _ _ _ e2 (ix2 r d)
    exact ⟨a, by rw [← ha]; pointwise⟩
  · obtain ⟨a, ha⟩ := real_of_all _ _ _ _ _ _ e4 (ix2 d k)
    exact ⟨a, by rw [← ha]; pointwise⟩
  · obtain ⟨a, ha⟩ := real_of_all _ _ _ _ _ _ e5 (ix2 d k)
    exact ⟨a, by rw [← ha]; pointwise⟩
  · exact real_of_all _ _ _ _ _ _ e6 (ix2 q e)
  · exact real_of_all _ _ _ _ _ _ e7 (ix2 q e)

end Cert.Proof.Pre

end
-- ==== Proof.Value.lean ====
/- The kernel's result and the reference's, from equal arguments that meet the precondition, are the same array. -/
module

public import proofs.«01_k».proof.Proof.Algebra
public import proofs.«01_k».proof.Proof.Final
public import proofs.«01_k».proof.Proof.Pre
public import proofs.«01_k».proof.Proof.Gen.Pre_typed_and_finite

@[expose] public section

set_option maxRecDepth 16384

noncomputable section

namespace Cert.Proof.Value

open Idealize.ShloMosaic Idealize.ShloMosaic.TcCoe Idealize.SL.Sem
open Cert.KernelIdeal Cert.KernelIdeal.Gen
open Cert.Proof.Final

theorem cast_at (x : FVec Ideal S4x256x3 .f32) (r : Fin 1024) (e : Fin 3) :
    shapeCast S1024x3 x shapeCasts_S4x256x3_S1024x3 (ix2 r e) = x (ix3 ⟨r.val / 256, by omega⟩ ⟨r.val % 256, by omega⟩ e) := by
  pointwise

theorem out_at (m : (ℓ : Loc nD τ sig) → Buf (Elt Ideal) ℓ) (c : Dev nD) (r : Fin 1024) (e : Fin 3) :
    shapeCast S1024x3 (outArr m c) shapeCasts_S4x256x3_S1024x3 (ix2 r e) = mout m c r e := by
  refine (cast_at _ r e).trans (congrArg (fun z => mout m c z e) (Fin.ext ?_))
  exact Nat.div_add_mod r.val 256

/-- The two results are one array. -/
theorem same (m : (ℓ : Loc nD τ sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal_typed_and_finite m) (c : Dev nD)
    (h0 : m' (c.tc.loc Cert.ReferenceIdeal.main_arg0) = m (c.tc.loc main_arg0))
    (h1 : m' (c.tc.loc Cert.ReferenceIdeal.main_arg1) = m (c.tc.loc main_arg1))
    (h2 : m' (c.tc.loc Cert.ReferenceIdeal.main_arg2) = m (c.tc.loc main_arg2))
    (h3 : m' (c.tc.loc Cert.ReferenceIdeal.main_arg3) = m (c.tc.loc main_arg3))
    (h4 : m' (c.tc.loc Cert.ReferenceIdeal.main_arg4) = m (c.tc.loc main_arg4))
    (h5 : m' (c.tc.loc Cert.ReferenceIdeal.main_arg5) = m (c.tc.loc main_arg5))
    (h6 : m' (c.tc.loc Cert.ReferenceIdeal.main_arg6) = m (c.tc.loc main_arg6))
    (h7 : m' (c.tc.loc Cert.ReferenceIdeal.main_arg7) = m (c.tc.loc main_arg7))
    (h8 : m' (c.tc.loc Cert.ReferenceIdeal.main_arg8) = m (c.tc.loc main_arg8))
    (h9 : m' (c.tc.loc Cert.ReferenceIdeal.main_arg9) = m (c.tc.loc main_arg9))
    (h10 : m' (c.tc.loc Cert.ReferenceIdeal.main_arg10) = m (c.tc.loc main_arg10))
    (h11 : m' (c.tc.loc Cert.ReferenceIdeal.main_arg11) = m (c.tc.loc main_arg11))
    (h12 : m' (c.tc.loc Cert.ReferenceIdeal.main_arg12) = m (c.tc.loc main_arg12))
    (h13 : m' (c.tc.loc Cert.ReferenceIdeal.main_arg13) = m (c.tc.loc main_arg13))
    (h14 : m' (c.tc.loc Cert.ReferenceIdeal.main_arg14) = m (c.tc.loc main_arg14))
    (h15 : m' (c.tc.loc Cert.ReferenceIdeal.main_arg15) = m (c.tc.loc main_arg15))
    (h16 : m' (c.tc.loc Cert.ReferenceIdeal.main_arg16) = m (c.tc.loc main_arg16))
    (h17 : m' (c.tc.loc Cert.ReferenceIdeal.main_arg17) = m (c.tc.loc main_arg17))
    (h18 : m' (c.tc.loc Cert.ReferenceIdeal.main_arg18) = m (c.tc.loc main_arg18)) :
    (Cert.ReferenceIdeal.Value.res_main_v75 m' c : FVec Ideal S1024x3 .f32)
      = shapeCast S1024x3 (outArr m c) shapeCasts_S4x256x3_S1024x3 := by
  refine funext fun y => ?_
  obtain ⟨r, e, rfl⟩ : ∃ (r : Fin 1024) (e : Fin 3), y = ix2 r e := ⟨y 0, y 1, by funext a; fin_cases a <;> rfl⟩
  refine (Cert.Proof.Ref.res_at m' c r e).trans (Eq.trans ?_ (out_at m c r e).symm)
  rw [h0, h1, h2, h3, h4, h5, h6, h7, h8, h9, h10, h11, h12, h13, h14, h15, h16, h17, h18]
  obtain ⟨hp, hC, hf0, hs0, hf3, hs3⟩ := Cert.Proof.Pre.unpack _ _ _ _ _ _ _ _ _ _ _ _ _ _ _ _ _ _ _ (hpre c)
  exact (Cert.Proof.Algebra.kout_eq _ _ _ _ _ _ _ _ _ _ _ _ _ _ _ _ _ _ _ hp hC hf0 hs0 hf3 hs3 r e).symm

end Cert.Proof.Value

end
-- ==== Proof.lean ====
/- The fluid and solid particle networks, summed over the masked neighbours: the kernel computes what the reference
   computes, over the extended reals.
   Group, GroupAt, Blocks, Body and Windows read one grid step of the kernel, HostOps and HostAt the weights that its host
   code lays out, and Final the array that it returns. Ref reads the reference's sum entry by entry, Pre the precondition.
   Algebra equates the two sums and Value the two arrays. This file joins them to the claim. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_typed_and_finite
public import proofs.«01_k».proof.Proof.RefFrame
public import proofs.«01_k».proof.Proof.Value
public import Idealize.ShloMosaic.Adequacy
public import Idealize.ShloMosaic.Init

@[expose] public section

noncomputable section

namespace Cert.Proof

open Idealize.ShloMosaic Idealize.SL.Sem

/-- The kernel's run ends with the array `Value.same` equates with the reference's. -/
theorem algebraic : Cert.algebraic_KernelIdeal_ReferenceIdeal_pre_typed_and_finite := by
  intro m g m' g' hpre hagree
  refine ⟨fun c => shapeCast Cert.KernelIdeal.S1024x3 (Final.outArr m c) Cert.KernelIdeal.Gen.shapeCasts_S4x256x3_S1024x3, ?_, ?_⟩
  · refine θ_run_mono (θ_run_and (Cert.KernelIdeal.Gen.run_main m g) (Cert.KernelIdeal.Gen.unchanged m g)) fun r h c => ⟨?_, h.2 c⟩
    exact ((h.1 c).2 Cert.KernelIdeal.main_v69 (Pipeline.mem_restRefs_of Cert.KernelIdeal.main_v69 (by decide) (by decide))).trans (Final.result m c)
  · refine θ_run_mono (Cert.ReferenceIdeal.Value.run (F := Ideal) m' g') fun r h c => ⟨(h c).1.trans ?_, (h c).2⟩
    obtain ⟨h0, h1, h2, h3, h4, h5, h6, h7, h8, h9, h10, h11, h12, h13, h14, h15, h16, h17, h18⟩ := hagree c
    exact Value.same m m' hpre c h0 h1 h2 h3 h4 h5 h6 h7 h8 h9 h10 h11 h12 h13 h14 h15 h16 h17 h18

/-- The four programs' stated facts, the three frames, the idealization and the equation of the two arrays. -/
theorem claim : Cert.Claim := by
  refine ⟨Cert.Kernel.Gen.facts, Cert.KernelIdeal.Gen.facts, Cert.ReferenceIdeal.Gen.facts, Cert.Pre_typed_and_finite.Gen.facts, ?_⟩
  exact ⟨fun m ρ _ => Cert.Kernel.Gen.frame m ρ, fun m ρ _ => Cert.KernelIdeal.Gen.frame m ρ, fun m ρ _ => Cert.KernelIdeal.Gen.frame m ρ,
    quiescent_reference, fun m ρ _ => quiescent_reference m ρ trivial, trivial, algebraic⟩

end Cert.Proof

end
